-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_indices) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S100000x3 : Shape := ⟨2, ![100000, 3]⟩
abbrev S100000x2 : Shape := ⟨2, ![100000, 2]⟩
abbrev S512x2 : Shape := ⟨2, ![512, 2]⟩
abbrev S512x3 : Shape := ⟨2, ![512, 3]⟩
abbrev S512 : Shape := ⟨1, ![512]⟩
abbrev S512x1 : Shape := ⟨2, ![512, 1]⟩
abbrev S_ : Shape := ⟨0, ![]⟩
abbrev S100000 : Shape := ⟨1, ![100000]⟩
abbrev S100000x1 : Shape := ⟨2, ![100000, 1]⟩
abbrev S1x512 : Shape := ⟨2, ![1, 512]⟩
abbrev S100000x512 : Shape := ⟨2, ![100000, 512]⟩
abbrev S3x512 : Shape := ⟨2, ![3, 512]⟩
abbrev S100000x4 : Shape := ⟨2, ![100000, 4]⟩
abbrev S1x1 : Shape := ⟨2, ![1, 1]⟩

class Facts : Prop where
  reducesTo_S100000x3_S100000_d1 : S100000x3.ReducesTo [1] S100000
  h_S_ : 0 < S_.numel
  bcast_S100000_S100000x1_0 : S100000.BroadcastsInDim S100000x1 (![0] : Fin 1 → Fin S100000x1.rank)
  reducesTo_S512x3_S512_d1 : S512x3.ReducesTo [1] S512
  bcast_S512_S1x512_1 : S512.BroadcastsInDim S1x512 (![1] : Fin 1 → Fin S1x512.rank)
  bcast_S100000x1_S100000x512_0_1 : S100000x1.BroadcastsInDim S100000x512 (![0, 1] : Fin 2 → Fin S100000x512.rank)
  bcast_S1x512_S100000x512_0_1 : S1x512.BroadcastsInDim S100000x512 (![0, 1] : Fin 2 → Fin S100000x512.rank)
  transposes_S512x3_S3x512_1_0 : S512x3.Transposes [1, 0] S3x512
  bcast_S_S100000x512 : S_.BroadcastsInDim S100000x512 (![] : Fin 0 → Fin S100000x512.rank)
  sliceFits_S100000x512_S100000x4 : S100000x512.Slices (fun _ => 0) S100000x4
  slices_S100000x4_S100000x3_0_0 : S100000x4.Slices ![0, 0] S100000x3
  slices_S100000x4_S100000x3_0_1 : S100000x4.Slices ![0, 1] S100000x3
  slices_S512x1_S1x1_0_0 : S512x1.Slices ![0, 0] S1x1
  bcast_S1x1_S512x1_0_1 : S1x1.BroadcastsInDim S512x1 (![0, 1] : Fin 2 → Fin S512x1.rank)
  bcast_S_S512x3 : S_.BroadcastsInDim S512x3 (![] : Fin 0 → Fin S512x3.rank)
  bcast_S_S512 : S_.BroadcastsInDim S512 (![] : Fin 0 → Fin S512.rank)
  dot_S100000x3_S3x512_S100000x512_1_0_0_1_n_n_wf : DotDims.WF S100000x3 S3x512 S100000x512 [1] [0] [0] [1] [] []

variable [Facts]

def dot_S100000x3_S3x512_S100000x512_1_0_0_1_n_n : DotDims S100000x3 S3x512 S100000x512 where
  lhsContracting := [1]
  rhsContracting := [0]
  lhsNonContracting := [0]
  rhsNonContracting := [1]
  lhsBatch := []
  rhsBatch := []
  wf := dot_S100000x3_S3x512_S100000x512_1_0_0_1_n_n_wf
def fn_part1 {F : FTy → Type} [FloatOps F] (main_arg3 : FVec F S512x3 .f32) (main_arg4 : FVec F S512 .f32) (main_arg5 : FVec F S512x1 .f32) (main_v17 : IVec S100000x3 1) (main_v18 : FVec F S1x1 .f32) : IVec S100000x3 1 × IVec S512x3 1 × IVec S512 1 × IVec S512x1 1 :=
  let main_v19 : FVec F S512x1 .f32 := broadcastInDim S512x1 ![0, 1] bcast_S1x1_S512x1_0_1 main_v18
  let main_v20 : IVec S512x1 1 := cmpf .oeq main_arg5 main_v19
  let main_v21 : FVec F S512x3 .f32 := Host.absf main_arg3
  let main_cst_2 : FVec F S_ .f32 := constant S_ .f32 0x7F800000#32
  let main_v22 : FVec F S512x3 .f32 := broadcastInDim S512x3 ![] bcast_S_S512x3 main_cst_2
  let main_v23 : IVec S512x3 1 := cmpf .olt main_v21 main_v22
  let main_cst_3 : FVec F S_ .f32 := constant S_ .f32 0xFF800000#32
  let main_v24 : FVec F S512 .f32 := broadcastInDim S512 ![] bcast_S_S512 main_cst_3
  let main_v25 : IVec S512 1 := cmpf .ogt main_arg4 main_v24
  (main_v17, main_v23, main_v25, main_v20)

def fn {F : FTy → Type} [FloatOps F] (main_arg0 : FVec F S100000x3 .f32) (main_arg1 : FVec F S100000x2 .f32) (main_arg2 : FVec F S512x2 .f32) (main_arg3 : FVec F S512x3 .f32) (main_arg4 : FVec F S512 .f32) (main_arg5 : FVec F S512x1 .f32) : IVec S100000x3 1 × IVec S512x3 1 × IVec S512 1 × IVec S512x1 1 :=
  let main_v0 : FVec F S100000x3 .f32 := mulf main_arg0 main_arg0
  let main_cst : FVec F S_ .f32 := constant S_ .f32 0x00000000#32
  let main_v1 : FVec F S100000 .f32 := (fun x v => Host.reduceAdd x v reducesTo_S100000x3_S100000_d1 h_S_) main_v0 main_cst
  let main_v2 : FVec F S100000x1 .f32 := broadcastInDim S100000x1 ![0] bcast_S100000_S100000x1_0 main_v1
  let main_v3 : FVec F S512x3 .f32 := mulf main_arg3 main_arg3
  let main_cst_0 : FVec F S_ .f32 := constant S_ .f32 0x00000000#32
  let main_v4 : FVec F S512 .f32 := (fun x v => Host.reduceAdd x v reducesTo_S512x3_S512_d1 h_S_) main_v3 main_cst_0
  let main_v5 : FVec F S1x512 .f32 := broadcastInDim S1x512 ![1] bcast_S512_S1x512_1 main_v4
  let main_v6 : FVec F S100000x512 .f32 := broadcastInDim S100000x512 ![0, 1] bcast_S100000x1_S100000x512_0_1 main_v2
  let main_v7 : FVec F S100000x512 .f32 := broadcastInDim S100000x512 ![0, 1] bcast_S1x512_S100000x512_0_1 main_v5
  let main_v8 : FVec F S100000x512 .f32 := addf main_v6 main_v7
  let main_v9 : FVec F S3x512 .f32 := (transpose S3x512 [1, 0] · transposes_S512x3_S3x512_1_0) main_arg3
  let main_v10 : FVec F S100000x512 .f32 := (fun l r => Host.dotGeneral dot_S100000x3_S3x512_S100000x512_1_0_0_1_n_n none l r) main_arg0 main_v9
  let main_cst_1 : FVec F S_ .f32 := constant S_ .f32 0x40000000#32
  let main_v11 : FVec F S100000x512 .f32 := broadcastInDim S100000x512 ![] bcast_S_S100000x512 main_cst_1
  let main_v12 : FVec F S100000x512 .f32 := mulf main_v11 main_v10
  let main_v13 : FVec F S100000x512 .f32 := subf main_v8 main_v12
  let main_v14 : FVec F S100000x512 .f32 := Host.negf main_v13
  let main_values : FVec F S100000x4 .f32 := (fun x => (Host.topK S100000x4 1 (FloatOps.cmpfTotal .gt) x sliceFits_S100000x512_S100000x4).1) main_v14
  let main_indices : IVec S100000x4 32 := (fun x => (Host.topK S100000x4 1 (FloatOps.cmpfTotal .gt) x sliceFits_S100000x512_S100000x4).2) main_v14
  let main_v15 : FVec F S100000x3 .f32 := (extractStridedSlice S100000x3 ![0, 0] · slices_S100000x4_S100000x3_0_0) main_values
  let main_v16 : FVec F S100000x3 .f32 := (extractStridedSlice S100000x3 ![0, 1] · slices_S100000x4_S100000x3_0_1) main_values
  let main_v17 : IVec S100000x3 1 := cmpf .ogt main_v15 main_v16
  let main_v18 : FVec F S1x1 .f32 := (extractStridedSlice S1x1 ![0, 0] · slices_S512x1_S1x1_0_0) main_arg5
  fn_part1 (F := F) main_arg3 main_arg4 main_arg5 main_v17 main_v18
-- ==== Kernel.lean ====
abbrev S100000x3 : Shape := ⟨2, ![100000, 3]⟩
abbrev S100000x2 : Shape := ⟨2, ![100000, 2]⟩
abbrev S512x2 : Shape := ⟨2, ![512, 2]⟩
abbrev S512x3 : Shape := ⟨2, ![512, 3]⟩
abbrev S512 : Shape := ⟨1, ![512]⟩
abbrev S512x1 : Shape := ⟨2, ![512, 1]⟩
abbrev S_ : Shape := ⟨0, ![]⟩
abbrev S102400x3 : Shape := ⟨2, ![102400, 3]⟩
abbrev S3x512 : Shape := ⟨2, ![3, 512]⟩
abbrev S1x512 : Shape := ⟨2, ![1, 512]⟩
abbrev S4096x3 : Shape := ⟨2, ![4096, 3]⟩
abbrev S4096 : Shape := ⟨1, ![4096]⟩
abbrev S4096x1 : Shape := ⟨2, ![4096, 1]⟩
abbrev S4096x512 : Shape := ⟨2, ![4096, 512]⟩
abbrev S1x1 : Shape := ⟨2, ![1, 1]⟩

abbrev nBuf : Space → Nat
  | .hbm => 33
  | .vmem => 12
  | .smem => 0
  | _ => 0

abbrev bufTy : (tb : Table) → Fin (tcTables nBuf tb) → BufTy
  | .hbm, ⟨0, _⟩ => ⟨S100000x3, .f32⟩
  | .hbm, ⟨1, _⟩ => ⟨S100000x2, .f32⟩
  | .hbm, ⟨2, _⟩ => ⟨S512x2, .f32⟩
  | .hbm, ⟨3, _⟩ => ⟨S512x3, .f32⟩
  | .hbm, ⟨4, _⟩ => ⟨S512, .f32⟩
  | .hbm, ⟨5, _⟩ => ⟨S512x1, .f32⟩
  | .hbm, ⟨6, _⟩ => ⟨S_, .i32⟩
  | .hbm, ⟨7, _⟩ => ⟨S_, .f32⟩
  | .hbm, ⟨8, _⟩ => ⟨S102400x3, .f32⟩
  | .hbm, ⟨9, _⟩ => ⟨S3x512, .f32⟩
  | .hbm, ⟨10, _⟩ => ⟨S_, .f32⟩
  | .hbm, ⟨11, _⟩ => ⟨S3x512, .f32⟩
  | .hbm, ⟨12, _⟩ => ⟨S3x512, .f32⟩
  | .hbm, ⟨13, _⟩ => ⟨S512x3, .f32⟩
  | .hbm, ⟨14, _⟩ => ⟨S_, .f32⟩
  | .hbm, ⟨15, _⟩ => ⟨S512, .f32⟩
  | .hbm, ⟨16, _⟩ => ⟨S1x512, .f32⟩
  | .hbm, ⟨17, _⟩ => ⟨S512, .f32⟩
  | .hbm, ⟨18, _⟩ => ⟨S_, .f32⟩
  | .hbm, ⟨19, _⟩ => ⟨S512, .f32⟩
  | .hbm, ⟨20, _⟩ => ⟨S512, .f32⟩
  | .hbm, ⟨21, _⟩ => ⟨S512, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S1x512, .f32⟩
  | .hbm, ⟨26, _⟩ => ⟨S1x512, .f32⟩
  | .hbm, ⟨27, _⟩ => ⟨S102400x3, .f32⟩
  | .hbm, ⟨28, _⟩ => ⟨S102400x3, .f32⟩
  | .hbm, ⟨29, _⟩ => ⟨S102400x3, .i32⟩
  | .hbm, ⟨30, _⟩ => ⟨S100000x3, .f32⟩
  | .hbm, ⟨31, _⟩ => ⟨S100000x3, .f32⟩
  | .hbm, ⟨32, _⟩ => ⟨S100000x3, .i32⟩
  | .local _ .vmem, ⟨0, _⟩ => ⟨S4096x3, .f32⟩
  | .local _ .vmem, ⟨1, _⟩ => ⟨S4096x3, .f32⟩
  | .local _ .vmem, ⟨2, _⟩ => ⟨S3x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S4096x3, .f32⟩
  | .local _ .vmem, ⟨7, _⟩ => ⟨S4096x3, .f32⟩
  | .local _ .vmem, ⟨8, _⟩ => ⟨S4096x3, .f32⟩
  | .local _ .vmem, ⟨9, _⟩ => ⟨S4096x3, .f32⟩
  | .local _ .vmem, ⟨10, _⟩ => ⟨S4096x3, .i32⟩
  | .local _ .vmem, ⟨11, _⟩ => ⟨S4096x3, .i32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_v15_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x3 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S100000x3 : Shape := ⟨2, ![100000, 3]⟩
abbrev S100000x2 : Shape := ⟨2, ![100000, 2]⟩
abbrev S512x2 : Shape := ⟨2, ![512, 2]⟩
abbrev S512x3 : Shape := ⟨2, ![512, 3]⟩
abbrev S512 : Shape := ⟨1, ![512]⟩
abbrev S512x1 : Shape := ⟨2, ![512, 1]⟩
abbrev S_ : Shape := ⟨0, ![]⟩
abbrev S100000 : Shape := ⟨1, ![100000]⟩
abbrev S100000x1 : Shape := ⟨2, ![100000, 1]⟩
abbrev S1x512 : Shape := ⟨2, ![1, 512]⟩
abbrev S100000x512 : Shape := ⟨2, ![100000, 512]⟩
abbrev S3x512 : Shape := ⟨2, ![3, 512]⟩
abbrev S100000x3x1 : Shape := ⟨3, ![100000, 3, 1]⟩

abbrev nBuf : Space → Nat
  | .hbm => 71
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S100000x2, .f32⟩
  | .hbm, ⟨2, _⟩ => ⟨S512x2, .f32⟩
  | .hbm, ⟨3, _⟩ => ⟨S512x3, .f32⟩
  | .hbm, ⟨4, _⟩ => ⟨S512, .f32⟩
  | .hbm, ⟨5, _⟩ => ⟨S512x1, .f32⟩
  | .hbm, ⟨6, _⟩ => ⟨S100000x3, .f32⟩
  | .hbm, ⟨7, _⟩ => ⟨S_, .f32⟩
  | .hbm, ⟨8, _⟩ => ⟨S100000, .f32⟩
  | .hbm, ⟨9, _⟩ => ⟨S100000x1, .f32⟩
  | .hbm, ⟨10, _⟩ => ⟨S512x3, .f32⟩
  | .hbm, ⟨11, _⟩ => ⟨S_, .f32⟩
  | .hbm, ⟨12, _⟩ => ⟨S512, .f32⟩
  | .hbm, ⟨13, _⟩ => ⟨S1x512, .f32⟩
  | .hbm, ⟨14, _⟩ => ⟨S100000x512, .f32⟩
  | .hbm, ⟨15, _⟩ => ⟨S100000x512, .f32⟩
  | .hbm, ⟨16, _⟩ => ⟨S100000x512, .f32⟩
  | .hbm, ⟨17, _⟩ => ⟨S3x512, .f32⟩
  | .hbm, ⟨18, _⟩ => ⟨S100000x512, .f32⟩
  | .hbm, ⟨19, _⟩ => ⟨S_, .f32⟩
  | .hbm, ⟨20, _⟩ => ⟨S100000x512, .f32⟩
  | .hbm, ⟨21, _⟩ => ⟨S100000x512, .f32⟩
  | .hbm, ⟨22, _⟩ => ⟨S100000x512, .f32⟩
  | .hbm, ⟨23, _⟩ => ⟨S100000x512, .f32⟩
  | .hbm, ⟨24, _⟩ => ⟨S100000x3, .f32⟩
  | .hbm, ⟨25, _⟩ => ⟨S100000x3, .i32⟩
  | .hbm, ⟨26, _⟩ => ⟨S100000x3, .f32⟩
  | .hbm, ⟨27, _⟩ => ⟨S512, .f32⟩
  | .hbm, ⟨28, _⟩ => ⟨S_, .i32⟩
  | .hbm, ⟨29, _⟩ => ⟨S100000x3, .i32⟩
  | .hbm, ⟨30, _⟩ => ⟨S100000x3, .i1⟩
  | .hbm, ⟨31, _⟩ => ⟨S_, .i32⟩
  | .hbm, ⟨32, _⟩ => ⟨S100000x3, .i32⟩
  | .hbm, ⟨33, _⟩ => ⟨S100000x3, .i32⟩
  | .hbm, ⟨34, _⟩ => ⟨S100000x3, .i32⟩
  | .hbm, ⟨35, _⟩ => ⟨S100000x3x1, .i32⟩
  | .hbm, ⟨36, _⟩ => ⟨S100000x3, .f32⟩
  | .hbm, ⟨37, _⟩ => ⟨S100000x3, .f32⟩
  | .hbm, ⟨38, _⟩ => ⟨S100000x3, .f32⟩
  | .hbm, ⟨39, _⟩ => ⟨S_, .f32⟩
  | .hbm, ⟨40, _⟩ => ⟨S100000x3, .f32⟩
  | .hbm, ⟨41, _⟩ => ⟨S100000x3, .f32⟩
  | .hbm, ⟨42, _⟩ => ⟨S100000x3, .f32⟩
  | .hbm, ⟨43, _⟩ => ⟨S100000x3, .f32⟩
  | .hbm, ⟨44, _⟩ => ⟨S512x1, .f32⟩
  | .hbm, ⟨45, _⟩ => ⟨S512x1, .f32⟩
  | .hbm, ⟨46, _⟩ => ⟨S_, .f32⟩
  | .hbm, ⟨47, _⟩ => ⟨S512x1, .f32⟩
  | .hbm, ⟨48, _⟩ => ⟨S512x1, .f32⟩
  | .hbm, ⟨49, _⟩ => ⟨S_, .f32⟩
  | .hbm, ⟨50, _⟩ => ⟨S512x1, .f32⟩
  | .hbm, ⟨51, _⟩ => ⟨S512x1, .f32⟩
  | .hbm, ⟨52, _⟩ => ⟨S_, .i32⟩
  | .hbm, ⟨53, _⟩ => ⟨S100000x3, .i32⟩
  | .hbm, ⟨54, _⟩ => ⟨S100000x3, .i1⟩
  | .hbm, ⟨55, _⟩ => ⟨S_, .i32⟩
  | .hbm, ⟨56, _⟩ => ⟨S100000x3, .i32⟩
  | .hbm, ⟨57, _⟩ => ⟨S100000x3, .i32⟩
  | .hbm, ⟨58, _⟩ => ⟨S100000x3, .i32⟩
  | .hbm, ⟨59, _⟩ => ⟨S100000x3x1, .i32⟩
  | .hbm, ⟨60, _⟩ => ⟨S100000x3x1, .f32⟩
  | .hbm, ⟨61, _⟩ => ⟨S100000x3, .f32⟩
  | .hbm, ⟨62, _⟩ => ⟨S100000x3, .f32⟩
  | .hbm, ⟨63, _⟩ => ⟨S_, .f32⟩
  | .hbm, ⟨64, _⟩ => ⟨S100000x3, .f32⟩
  | .hbm, ⟨65, _⟩ => ⟨S100000x3, .f32⟩
  | .hbm, ⟨66, _⟩ => ⟨S_, .f32⟩
  | .hbm, ⟨67, _⟩ => ⟨S100000, .f32⟩
  | .hbm, ⟨68, _⟩ => ⟨S100000x1, .f32⟩
  | .hbm, ⟨69, _⟩ => ⟨S100000x3, .f32⟩
  | .hbm, ⟨70, _⟩ => ⟨S100000x3, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_values : Ref sig .tc := ⟨.hbm, 24, rfl⟩
abbrev main_indices : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Proof.Rounds.lean ====
/-
  Three rounds of "take the least, strike it out" on a row of 512 extended reals, free of any program.

  A round takes the least value of the row, reads what stands beside it, and strikes it out by putting `+∞` where no
  greater value stands. When three different columns hold the three least values, each strictly below everything not
  yet taken, the rounds meet them one by one: round `k` has the least value, and reads the entry, of column `s k`.
-/
module

public import Idealize.ShloMosaic.Lib.Pointwise

@[expose] public section

noncomputable section

namespace Cert.Proof.Rounds

/-- The least of a row's values, `+∞` among them. -/
def least (c : Fin 512 → EReal) : EReal := Finset.univ.fold min ⊤ c

/-- The row with `+∞` wherever nothing greater than its least value stands. -/
def strike (c : Fin 512 → EReal) : Fin 512 → EReal := fun j => if least c < c j then c j else ⊤

/-- The least entry of `a` over the columns where `c` is least, the other columns counting as `e`. -/
def beside (c a : Fin 512 → EReal) (e : EReal) : EReal :=
  Finset.univ.fold min ⊤ fun j => if c j = least c then a j else e

/-- The row as round `k` finds it. -/
def row (c : Fin 512 → EReal) : ℕ → Fin 512 → EReal
  | 0 => c
  | k + 1 => strike (row c k)

/-- Column `s` alone holds the least value of the row, and it is below `+∞`. -/
def Alone (c : Fin 512 → EReal) (s : Fin 512) : Prop := c s < ⊤ ∧ ∀ j, j ≠ s → c s < c j

/-- A fold of `min` from `+∞` is `v` when some entry is `v` and none is below it. -/
theorem fold_min_eq {f : Fin 512 → EReal} {v : EReal} (s : Fin 512) (hs : f s = v) (h : ∀ j, v ≤ f j) :
    Finset.univ.fold min ⊤ f = v := by
  apply le_antisymm
  · exact (Finset.fold_min_le v).mpr (Or.inr ⟨s, Finset.mem_univ s, hs.le⟩)
  · exact (Finset.le_fold_min v).mpr ⟨le_top, fun j _ => h j⟩

/-- The least value is the one of the column that alone holds it. -/
theorem least_eq {c : Fin 512 → EReal} {s : Fin 512} (h : Alone c s) : least c = c s :=
  fold_min_eq s rfl fun j => if e : j = s then e ▸ le_rfl else (h.2 j e).le

/-- What stands beside the least value is the entry of the column that alone holds it. -/
theorem beside_eq {c : Fin 512 → EReal} {s : Fin 512} (h : Alone c s) (a : Fin 512 → EReal) {e : EReal} (he : a s ≤ e) :
    beside c a e = a s := by
  unfold beside
  rw [least_eq h]
  refine fold_min_eq s (if_pos rfl) fun j => ?_
  by_cases hj : j = s
  · subst hj; rw [if_pos rfl]
  · rw [if_neg (h.2 j hj).ne']; exact he

/-- Striking puts `+∞` in the column that alone holds the least value and leaves the others. -/
theorem strike_eq {c : Fin 512 → EReal} {s : Fin 512} (h : Alone c s) (j : Fin 512) :
    strike c j = if j = s then ⊤ else c j := by
  unfold strike
  rw [least_eq h]
  by_cases hj : j = s
  · subst hj; rw [if_neg (lt_irrefl _), if_pos rfl]
  · rw [if_pos (h.2 j hj), if_neg hj]

/-- The columns `s 0`, `s 1`, `s 2` are different and hold the three least values: each is below `+∞`, and strictly
    below every column that is neither it nor taken before it. -/
structure Nearest (c : Fin 512 → EReal) (s : Fin 3 → Fin 512) : Prop where
  inj : Function.Injective s
  fin : ∀ k, c (s k) < ⊤
  lt : ∀ k j, (∀ l, l ≤ k → j ≠ s l) → c (s k) < c j

/-- What the row holds when round `k` finds it: `+∞` in the columns taken before, its own values elsewhere; and column
    `s k` alone holds its least value. -/
theorem row_eq {c : Fin 512 → EReal} {s : Fin 3 → Fin 512} (h : Nearest c s) :
    ∀ k : ℕ, ∀ hk : k < 3,
      (∀ j, row c k j = if ∃ l : Fin 3, l.val < k ∧ j = s l then ⊤ else c j) ∧ Alone (row c k) (s ⟨k, hk⟩) := by
  have alone : ∀ k : ℕ, ∀ hk : k < 3,
      (∀ j, row c k j = if ∃ l : Fin 3, l.val < k ∧ j = s l then ⊤ else c j) → Alone (row c k) (s ⟨k, hk⟩) := by
    intro k hk hrow
    have hs : row c k (s ⟨k, hk⟩) = c (s ⟨k, hk⟩) := by
      rw [hrow, if_neg]
      rintro ⟨l, hl, e⟩
      have := h.inj e
      subst this
      exact lt_irrefl _ hl
    refine ⟨hs ▸ h.fin _, fun j hj => ?_⟩
    rw [hs, hrow]
    split
    · exact h.fin _
    · rename_i hn
      refine h.lt _ _ fun l hl e => ?_
      rcases lt_or_eq_of_le hl with hl | rfl
      · exact hn ⟨l, hl, e⟩
      · exact hj e
  intro k
  induction k with
  | zero =>
    intro hk
    have h0 : ∀ j, row c 0 j = if ∃ l : Fin 3, l.val < 0 ∧ j = s l then ⊤ else c j := by
      intro j
      rw [if_neg]
      · rfl
      · rintro ⟨l, hl, _⟩
        exact Nat.not_lt_zero _ hl
    exact ⟨h0, alone 0 hk h0⟩
  | succ k ih =>
    intro hk
    obtain ⟨hrow, hal⟩ := ih (by omega)
    have h1 : ∀ j, row c (k + 1) j = if ∃ l : Fin 3, l.val < k + 1 ∧ j = s l then ⊤ else c j := by
      intro j
      show strike (row c k) j = _
      rw [strike_eq hal, hrow]
      by_cases hj : j = s ⟨k, by omega⟩
      · rw [if_pos hj, if_pos ⟨⟨k, by omega⟩, Nat.lt_succ_self k, hj⟩]
      · rw [if_neg hj]
        refine if_congr ⟨fun ⟨l, hl, e⟩ => ⟨l, by omega, e⟩, fun ⟨l, hl, e⟩ => ⟨l, ?_, e⟩⟩ rfl rfl
        rcases Nat.lt_succ_iff_lt_or_eq.mp hl with hl | hl
        · exact hl
        · exact absurd (e.trans (congrArg s (Fin.ext hl))) hj
    exact ⟨h1, alone (k + 1) hk h1⟩

/-- Round `k`'s least value is the one of column `s k`. -/
theorem least_row {c : Fin 512 → EReal} {s : Fin 3 → Fin 512} (h : Nearest c s) (k : Fin 3) :
    least (row c k) = c (s k) := by
  obtain ⟨hrow, hal⟩ := row_eq h k k.isLt
  rw [least_eq hal, hrow, if_neg]
  rintro ⟨l, hl, e⟩
  have := h.inj e
  subst this
  exact lt_irrefl _ hl

/-- What round `k` reads beside its least value is column `s k`'s entry. -/
theorem beside_row {c : Fin 512 → EReal} {s : Fin 3 → Fin 512} (h : Nearest c s) (k : Fin 3) (a : Fin 512 → EReal)
    {e : EReal} (he : a (s k) ≤ e) : beside (row c k) a e = a (s k) :=
  beside_eq (row_eq h k k.isLt).2 a he

end Cert.Proof.Rounds

end
-- ==== Proof.Reals.lean ====
/-
  The arithmetic of one row, free of any program: the squared distance written two ways, the weight written two ways,
  the normalisation written two ways, and the constants both programs spell as bit patterns.
-/
module

public import Idealize.ShloMosaic.Lib.Pointwise
public import Idealize.ShloMosaic.Lib.IdealHost

@[expose] public section

noncomputable section

namespace Cert.Proof.Reals

open Idealize.ShloMosaic

/-! ### Constants -/

/-- The pattern of `+∞`. -/
theorem top_bits : Ideal.ofBits .f32 0x7F800000#32 = ⊤ := by
  simp [Ideal.ofBits, Ideal.ieee]

/-- The pattern of `-∞`. -/
theorem bot_bits : Ideal.ofBits .f32 0xFF800000#32 = ⊥ := by
  simp [Ideal.ofBits, Ideal.ieee]

/-- The pattern of `512`. -/
theorem cols_bits : Ideal.ofBits .f32 0x44000000#32 = ((512 : ℝ) : EReal) := by
  simp [Ideal.ofBits, Ideal.ieee, -EReal.coe_mul]; norm_num

/-- The pattern of `1`. -/
theorem one_bits : Ideal.ofBits .f32 0x3F800000#32 = ((1 : ℝ) : EReal) := by
  simp [Ideal.ofBits, Ideal.ieee, -EReal.coe_mul]; norm_num

/-- The pattern of `2`. -/
theorem two_bits : Ideal.ofBits .f32 0x40000000#32 = ((2 : ℝ) : EReal) := by
  simp [Ideal.ofBits, Ideal.ieee, -EReal.coe_mul]; norm_num

/-- The pattern of `-2`. -/
theorem neg_two_bits : Ideal.ofBits .f32 0xC0000000#32 = ((-2 : ℝ) : EReal) := by
  simp [Ideal.ofBits, Ideal.ieee, -EReal.coe_mul]; norm_num

/-- The constant added to every weight denotes a positive number. -/
theorem bias_pos : 0 < Ideal.ofBits .f32 0x33D6BF95#32 := by
  simp [Ideal.ofBits, Ideal.ieee, -EReal.coe_mul]

/-! ### The squared distance -/

/-- A point's squared length. -/
def norm2 (x : Fin 3 → EReal) : EReal := ∑ c, x c * x c

/-- The squared distance of a point from a node: the two squared lengths less twice the product. -/
def dist (x y : Fin 3 → EReal) : EReal := norm2 x + norm2 y - ((2 : ℝ) : EReal) * ∑ c, x c * y c

/-- What is left of it without the point's own squared length, the factor `-2` on the node's coordinates. -/
def score (x y : Fin 3 → EReal) : EReal := (∑ c, x c * (((-2 : ℝ) : EReal) * y c)) + norm2 y

/-- A triple of finite numbers is a triple of reals. -/
theorem exists_real {x : Fin 3 → EReal} (h : ∀ c, x c ≠ ⊤ ∧ x c ≠ ⊥) : ∃ r : Fin 3 → ℝ, x = fun c => (r c : EReal) :=
  ⟨fun c => (x c).toReal, funext fun c => (EReal.coe_toReal (h c).1 (h c).2).symm⟩

/-- Between finite triples, the two spellings of the distance are reals and agree. -/
theorem dist_eq {x y : Fin 3 → EReal} (hx : ∀ c, x c ≠ ⊤ ∧ x c ≠ ⊥) (hy : ∀ c, y c ≠ ⊤ ∧ y c ≠ ⊥) :
    ∃ a b : ℝ, norm2 x = a ∧ score x y = b ∧ dist x y = ((a + b : ℝ) : EReal) := by
  obtain ⟨r, rfl⟩ := exists_real hx
  obtain ⟨s, rfl⟩ := exists_real hy
  refine ⟨∑ c, r c * r c, (∑ c, r c * (-2 * s c)) + ∑ c, s c * s c, ?_, ?_, ?_⟩
  · unfold norm2; simp only [Fin.sum_univ_three]; norm_cast
  · unfold score norm2; simp only [Fin.sum_univ_three]; norm_cast
  · unfold dist norm2; simp only [Fin.sum_univ_three]
    simp only [← EReal.coe_mul, ← EReal.coe_add, ← EReal.coe_sub]
    congr 1
    ring

/-- A sum of three squares is `+∞` when one of them is not finite. -/
theorem norm2_top {x : Fin 3 → EReal} (c : Fin 3) (h : x c = ⊤ ∨ x c = ⊥) : norm2 x = ⊤ := by
  have hn : ∀ c, 0 ≤ x c * x c := fun c => by
    rcases le_total 0 (x c) with h | h
    · exact mul_nonneg h h
    · have := mul_nonneg (EReal.neg_nonneg.mpr h) (EReal.neg_nonneg.mpr h)
      rwa [neg_mul_neg] at this
  have ht : x c * x c = ⊤ := by rcases h with h | h <;> rw [h] <;> rfl
  refine top_le_iff.mp (ht ▸ ?_)
  unfold norm2
  exact Finset.single_le_sum (f := fun c => x c * x c) (fun c _ => hn c) (Finset.mem_univ c)

/-- From a point that is not finite, every finite node is at distance `+∞` or `-∞`. -/
theorem dist_infinite {x y : Fin 3 → EReal} (h : norm2 x = ⊤) (hy : ∀ c, y c ≠ ⊤ ∧ y c ≠ ⊥) :
    dist x y = ⊤ ∨ dist x y = ⊥ := by
  obtain ⟨s, rfl⟩ := exists_real hy
  have hs : norm2 (fun c => (s c : EReal)) = ((∑ c, s c * s c : ℝ) : EReal) := by
    unfold norm2; simp only [Fin.sum_univ_three]; norm_cast
  unfold dist
  rw [h, hs, EReal.top_add_coe]
  induction (((2 : ℝ) : EReal) * ∑ c, x c * (s c : EReal)) using EReal.rec
  · exact Or.inl rfl
  · exact Or.inl rfl
  · exact Or.inr rfl

/-- If three distances from one point decrease strictly, and the nodes are finite, the point is finite. -/
theorem finite_of_three {x : Fin 3 → EReal} {n : Fin 512 → Fin 3 → EReal} (hn : ∀ j c, n j c ≠ ⊤ ∧ n j c ≠ ⊥)
    {i j k : Fin 512} (h₁ : dist x (n i) < dist x (n j)) (h₂ : dist x (n j) < dist x (n k)) (c : Fin 3) :
    x c ≠ ⊤ ∧ x c ≠ ⊥ := by
  by_contra hc
  have ht : norm2 x = ⊤ := norm2_top c (by tauto)
  rcases dist_infinite ht (hn j) with hj | hj
  · rw [hj] at h₂; exact not_top_lt h₂
  · rw [hj] at h₁; exact not_lt_bot h₁

/-! ### The weight -/

/-- The weight's exponential, its exponent's denominator inverted first or divided by. -/
theorem weight_eq {d e : EReal} (he : e ≠ 0) :
    Ideal.exp ((0 - d) * Ideal.div ((1 : ℝ) : EReal) (((2 : ℝ) : EReal) * e * e))
      = Ideal.exp (Ideal.div (-d) (((2 : ℝ) : EReal) * (e * e))) := by
  have h2 : ((2 : ℝ) : EReal) ≠ 0 := by norm_cast
  have hz : ((2 : ℝ) : EReal) * (e * e) ≠ 0 := mul_ne_zero h2 (mul_ne_zero he he)
  unfold Ideal.div
  rw [mul_assoc, if_neg hz, if_neg hz, zero_sub, EReal.coe_one, one_mul]

/-- Above `-∞` the exponential is not zero. -/
theorem exp_ne_zero {x : EReal} (hx : x ≠ ⊥) : Ideal.exp x ≠ 0 := by
  induction x using EReal.rec with
  | bot => exact absurd rfl hx
  | coe r => exact (EReal.coe_pos.mpr (Real.exp_pos r)).ne'
  | top => exact EReal.top_ne_zero

/-- The exponential is never negative. -/
theorem exp_nonneg (x : EReal) : 0 ≤ Ideal.exp x := by
  induction x using EReal.rec with
  | bot => exact le_rfl
  | coe r => exact EReal.coe_nonneg.mpr (Real.exp_pos r).le
  | top => exact le_top

/-- The logistic function, written out, is never negative. -/
theorem logistic_nonneg (x : EReal) : 0 ≤ Ideal.div ((1 : ℝ) : EReal) (((1 : ℝ) : EReal) + Ideal.exp (-x)) := by
  have h1 : (0 : EReal) < ((1 : ℝ) : EReal) + Ideal.exp (-x) :=
    lt_of_lt_of_le (EReal.coe_pos.mpr one_pos) (le_add_of_nonneg_right (exp_nonneg _))
  unfold Ideal.div
  rw [if_neg h1.ne']
  exact mul_nonneg (EReal.coe_nonneg.mpr zero_le_one) (EReal.inv_nonneg_of_nonneg h1.le)

/-- An exponential times a logistic value plus the constant is positive. -/
theorem weight_pos (e x : EReal) :
    0 < Ideal.exp e * Ideal.div ((1 : ℝ) : EReal) (((1 : ℝ) : EReal) + Ideal.exp (-x)) + Ideal.ofBits .f32 0x33D6BF95#32 :=
  lt_of_lt_of_le bias_pos (le_add_of_nonneg_left (mul_nonneg (exp_nonneg _) (logistic_nonneg _)))

/-! ### The normalisation -/

/-- Multiplying by the inverse of a number that is not zero is dividing by it. -/
theorem mul_inv_eq_div {w s : EReal} (hs : s ≠ 0) : w * Ideal.div ((1 : ℝ) : EReal) s = Ideal.div w s := by
  unfold Ideal.div
  rw [if_neg hs, if_neg hs, EReal.coe_one, one_mul]

/-! ### The index -/

/-- A column number carried as a float is that number. -/
theorem column_eq (s : Fin 512) :
    FloatOps.sitofp (F := Ideal) .f32 (BitVec.ofNat 32 s.val) = (((s.val : ℕ) : ℝ) : EReal) := by
  have h : (BitVec.ofNat 32 s.val).toInt = (s.val : ℤ) := by
    rw [BitVec.toInt_eq_toNat_of_lt] <;> rw [BitVec.toNat_ofNat, Nat.mod_eq_of_lt] <;> omega
  show (((BitVec.ofNat 32 s.val).toInt : ℝ) : EReal) = _
  rw [h, Int.cast_natCast]

/-- Read back as a 32-bit word it is itself. -/
theorem word_eq (s : Fin 512) :
    FloatOps.fptosi (F := Ideal) (φ := .f32) 32 (FloatOps.sitofp (F := Ideal) .f32 (BitVec.ofNat 32 s.val))
      = BitVec.ofNat 32 s.val := by
  rw [column_eq]
  show BitVec.ofInt 32 (max (-(2 ^ 31 : ℕ) : ℤ) (min ((2 ^ 31 : ℕ) - 1 : ℤ)
    (if (0 : ℝ) ≤ ((s.val : ℕ) : ℝ) then ⌊((s.val : ℕ) : ℝ)⌋ else ⌈((s.val : ℕ) : ℝ)⌉))) = _
  rw [if_pos (Nat.cast_nonneg _), Int.floor_natCast, min_eq_right (by omega), max_eq_right (by omega)]
  rfl

/-- It is below `512`. -/
theorem word_le (s : Fin 512) :
    FloatOps.sitofp (F := Ideal) .f32 (BitVec.ofNat 32 s.val) ≤ ((512 : ℝ) : EReal) := by
  rw [column_eq]
  exact EReal.coe_le_coe_iff.mpr (by exact_mod_cast s.isLt.le)

end Cert.Proof.Reals

end
-- ==== Proof.Block.lean ====
/-
  What the kernel's body leaves in its three output blocks, entry by entry, from its five input blocks: the point
  coordinates, the node coordinates by `-2`, the nodes' squared lengths, the radius factors and the raw node weights.
-/
module

public import proofs.«01_k».proof.Proof.Gen.KernelIdeal.Frame
public import proofs.«01_k».proof.Proof.Rounds
public import proofs.«01_k».proof.Proof.Reals
public import Idealize.ShloMosaic.Lib.Pipeline.Value

@[expose] public section

set_option maxRecDepth 16384

noncomputable section

namespace Cert.Proof.Block

open Idealize.ShloMosaic Cert.KernelIdeal Cert.KernelIdeal.Gen
open Cert.Proof.Rounds Cert.Proof.Reals

/-- A point's costs over the 512 columns: its products with the scaled node coordinates, plus the nodes' squares. -/
def cost (x : Fin 3 → EReal) (t : Vec Ideal S3x512 .f32) (b : Vec Ideal S1x512 .f32) : Fin 512 → EReal :=
  fun j => (∑ c, x c * t (ix2 c j)) + b (ix2 0 j)

/-- Round `k`'s squared distance: the point's squared length plus the least cost the round finds. -/
def near (x : Fin 3 → EReal) (t : Vec Ideal S3x512 .f32) (b : Vec Ideal S1x512 .f32) (k : Fin 3) : EReal :=
  norm2 x + least (row (cost x t b) k)

/-- Round `k`'s column, as a 32-bit word. -/
def column (x : Fin 3 → EReal) (t : Vec Ideal S3x512 .f32) (b : Vec Ideal S1x512 .f32) (k : Fin 3) : BitVec 32 :=
  FloatOps.fptosi (F := Ideal) (φ := .f32) 32
    (beside (row (cost x t b) k) (fun j => FloatOps.sitofp (F := Ideal) .f32 (BitVec.ofNat 32 j.val)) ((512 : ℝ) : EReal))

/-- Round `k`'s weight before normalisation. -/
def weight (x : Fin 3 → EReal) (t : Vec Ideal S3x512 .f32) (b a w : Vec Ideal S1x512 .f32) (k : Fin 3) : EReal :=
  Ideal.exp ((0 - near x t b k) * beside (row (cost x t b) k) (fun j => a (ix2 0 j)) ⊤)
      * Ideal.logistic (w (ix2 0 0)) + Ideal.ofBits .f32 0x33D6BF95#32

/-- Round `k`'s weight by the inverse of the three weights' sum. -/
def normal (x : Fin 3 → EReal) (t : Vec Ideal S3x512 .f32) (b a w : Vec Ideal S1x512 .f32) (k : Fin 3) : EReal :=
  weight x t b a w k
    * Ideal.div ((1 : ℝ) : EReal) (weight x t b a w 0 + weight x t b a w 1 + weight x t b a w 2)

/-- Row `p` of a block of points. -/
def point (x : Vec Ideal S4096x3 .f32) (p : Fin 4096) : Fin 3 → EReal := fun c => x (ix2 p c)

variable (x0 : Vec Ideal S4096x3 .f32) (x1 : Vec Ideal S3x512 .f32) (x2 x3 x4 : Vec Ideal S1x512 .f32)

/-- The three rounds. -/
theorem three (k : Fin 3) : k = 0 ∨ k = 1 ∨ k = 2 := by
  fin_cases k <;> simp

/-- The loads of whole blocks read the blocks: the points, -/
theorem ld0 : View.ld x0 r0_0 = x0 := View.ld_unit_zero (by decide) _ x0

/-- the scaled node coordinates, -/
theorem ld1 : View.ld x1 r0_1 = x1 := View.ld_unit_zero (by decide) _ x1

/-- and a row of 512. -/
theorem ld2 : View.ld x2 r0_2 = x2 := View.ld_unit_zero (by decide) _ x2

/-- The body's costs. -/
theorem cost_eq (p : Fin 4096) (j : Fin 512) :
    k0_pay7 (F := Ideal) x0 x1 x2 (ix2 p j) = cost (point x0 p) x1 x2 j := by
  pointwise [k0_pay7, k0_pay5, dot_S4096x3_S3x512_S4096x512_1_0_0_1_n_n, cost, point]

/-- The body's squared lengths. -/
theorem norm2_eq (p : Fin 4096) (u : Fin 1) : k0_pay6 (F := Ideal) x0 (ix2 p u) = norm2 (point x0 p) := by
  pointwise [k0_pay6, k0_pay5, norm2, point]

/-- The first round's least cost. -/
theorem least0_eq (p : Fin 4096) (u : Fin 1) :
    k0_pay11 (F := Ideal) x0 x1 x2 (ix2 p u) = least (row (cost (point x0 p) x1 x2) 0) := by
  pointwise [k0_pay11, top_bits, cost_eq, row, least]

/-- The row as the second round finds it. -/
theorem row1_eq (p : Fin 4096) (j : Fin 512) :
    k0_pay19 (F := Ideal) (k0_pay7 (F := Ideal) x0 x1 x2) (k0_pay11 (F := Ideal) x0 x1 x2) (ix2 p j)
      = row (cost (point x0 p) x1 x2) 1 j := by
  pointwise [k0_pay19, top_bits, cost_eq, least0_eq, row, strike]

/-- The second round's least cost. -/
theorem least1_eq (p : Fin 4096) (u : Fin 1) :
    k0_pay20 (F := Ideal) (k0_pay7 (F := Ideal) x0 x1 x2) (k0_pay11 (F := Ideal) x0 x1 x2) (ix2 p u)
      = least (row (cost (point x0 p) x1 x2) 1) := by
  pointwise [k0_pay20, top_bits, row1_eq, least]

/-- The row as the third round finds it. -/
theorem row2_eq (p : Fin 4096) (j : Fin 512) :
    k0_pay25 (F := Ideal) (k0_pay7 (F := Ideal) x0 x1 x2) (k0_pay11 (F := Ideal) x0 x1 x2) (ix2 p j)
      = row (cost (point x0 p) x1 x2) 2 j := by
  pointwise [k0_pay25, top_bits, row1_eq, least1_eq, row, strike]

/-- The third round's least cost. -/
theorem least2_eq (p : Fin 4096) (u : Fin 1) :
    k0_pay26 (F := Ideal) (k0_pay7 (F := Ideal) x0 x1 x2) (k0_pay11 (F := Ideal) x0 x1 x2) (ix2 p u)
      = least (row (cost (point x0 p) x1 x2) 2) := by
  pointwise [k0_pay26, top_bits, row2_eq, least]

/-- The squared distances the body leaves. -/
theorem out6_eq (p : Fin 4096) (k : Fin 3) :
    out0_6 (F := Ideal) x0 x1 x2 x3 x4 (ix2 p k) = near (point x0 p) x1 x2 k := by
  unfold_out out0_6
  rw [View.canon_unit_zero (by decide), ld0, ld1, ld2]
  pointwise [k0_pay3, k0_pay1, k0_pay22, k0_pay14, least0_eq, least1_eq, least2_eq, norm2_eq, near]
  obtain rfl | rfl | rfl := three k <;> rfl

/-- The columns the body leaves. -/
theorem out7_eq (p : Fin 4096) (k : Fin 3) :
    out0_7 (F := Ideal) x0 x1 x2 x3 x4 (ix2 p k) = column (point x0 p) x1 x2 k := by
  unfold_out out0_7
  rw [View.canon_unit_zero (by decide), ld0, ld1, ld2]
  pointwise [k0_pay4, k0_pay18, k0_pay13, k0_pay24, k0_pay28, k0_pay12, k0_pay21, k0_pay27, k0_pay9, least0_eq,
    least1_eq, least2_eq, cost_eq, row1_eq, row2_eq, top_bits, cols_bits]
  obtain rfl | rfl | rfl := three k <;> rfl

/-- The first round's weight. -/
theorem weight0_eq (p : Fin 4096) (u : Fin 1) :
    k0_pay17 (F := Ideal) (k0_pay15 (F := Ideal) x0 x1 x2 x3) (k0_pay16 (F := Ideal) (View.ld x4 r0_3)) (ix2 p u)
      = weight (point x0 p) x1 x2 x3 x4 0 := by
  pointwise [k0_pay17, k0_pay15, k0_pay16, k0_pay14, k0_pay12, k0_pay10, k0_pay8, least0_eq, cost_eq, norm2_eq, top_bits]
  rfl

/-- The second round's weight. -/
theorem weight1_eq (p : Fin 4096) (u : Fin 1) :
    k0_pay23 (F := Ideal) (k0_pay6 (F := Ideal) x0) (k0_pay7 (F := Ideal) x0 x1 x2) x3
        (logistic (View.ld x4 r0_3) : FVec Ideal S1x1 .f32) (k0_pay11 (F := Ideal) x0 x1 x2) (ix2 p u)
      = weight (point x0 p) x1 x2 x3 x4 1 := by
  pointwise [k0_pay23, k0_pay22, k0_pay21, k0_pay10, k0_pay8, least1_eq, row1_eq, norm2_eq, top_bits]
  rfl

/-- The weights the body leaves. -/
theorem out5_eq (p : Fin 4096) (k : Fin 3) :
    out0_5 (F := Ideal) x0 x1 x2 x3 x4 (ix2 p k) = normal (point x0 p) x1 x2 x3 x4 k := by
  unfold_out out0_5
  rw [View.canon_unit_zero (by decide), ld0, ld1, ld2 x2, ld2 x3]
  pointwise [k0_pay2, k0_pay1, weight0_eq, weight1_eq, k0_pay27, k0_pay10, k0_pay8, least2_eq, row2_eq, norm2_eq,
    top_bits, one_bits]
  obtain rfl | rfl | rfl := three k <;> rfl

end Cert.Proof.Block

end
-- ==== Proof.Arrays.lean ====
/-
  What the three result arrays of the pipelined region hold after its last grid point, row by row.

  The grid has 25 points. Point `t` reads rows `4096 t` to `4096 t + 4095` of the padded point array, reads the four
  node arrays whole, and writes the same rows of each result array. So each result array ends as one function of the
  arrays the region found.
-/
module

public import proofs.«01_k».proof.Proof.Block
public import proofs.«01_k».proof.Proof.Gen.KernelIdeal.Points

@[expose] public section

set_option maxRecDepth 16384

noncomputable section

namespace Cert.Proof.Arrays

open Idealize.ShloMosaic Idealize.ShloMosaic.TcCoe Idealize.SL.Sem
open Idealize.ShloMosaic.Pipeline (Dat)
open Cert.KernelIdeal Cert.KernelIdeal.Gen Cert.Proof.Block

variable (m : (ℓ : Loc nD τ sig) → Buf (Elt Ideal) ℓ)

/-- The padded points as the region finds them. -/
def points (c : Dev nD) : Vec Ideal S102400x3 .f32 := V m c main_v0
/-- The scaled node coordinates as the region finds them, -/
def nodes (c : Dev nD) : Vec Ideal S3x512 .f32 := V m c main_v3
/-- the nodes' squared lengths, -/
def lengths (c : Dev nD) : Vec Ideal S1x512 .f32 := V m c main_v6
/-- the nodes' factors from their radii, -/
def factors (c : Dev nD) : Vec Ideal S1x512 .f32 := V m c main_v13
/-- and the nodes' raw weights. -/
def raws (c : Dev nD) : Vec Ideal S1x512 .f32 := V m c main_v14

/-- Row `r` of the padded points. -/
def at_ (c : Dev nD) (r : Fin 102400) : Fin 3 → EReal := fun a => points m c (ix2 r a)

/-- The block indices at every grid point: the points and the results move down one block a point, the rest stay. -/
theorem idx_facts : ∀ t : Fin cfg0.N,
    win0_0.index t (0 : Fin 2) = t.val ∧ win0_0.index t (1 : Fin 2) = 0
    ∧ (∀ a : Fin 2, win0_1.index t a = 0) ∧ (∀ a : Fin 2, win0_2.index t a = 0)
    ∧ (∀ a : Fin 2, win0_3.index t a = 0) ∧ (∀ a : Fin 2, win0_4.index t a = 0)
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- There are 25 grid points. -/
theorem points_25 (t : Fin cfg0.N) : t.val < 25 := t.isLt

/-- Row `p` of point `t`'s block, as a row of the array. -/
def deep (t : Fin cfg0.N) (p : Fin 4096) : Fin 102400 :=
  ⟨t.val * 4096 + p.val, by have := points_25 t; have := p.isLt; omega⟩

/-- Row `p` of the points' block at point `t` is row `4096 t + p` of the padded points. -/
theorem block0 (c : Dev nD) (t : Fin cfg0.N) (p : Fin 4096) :
    point (iblk m c 0 t) p = at_ m c (deep t p) := by
  funext a
  obtain ⟨h0, h1, -⟩ := idx_facts t
  unfold point at_ points iblk
  rw [View.read_apply]
  show V m c main_v0 _ = V m c main_v0 _
  congr 1
  funext b
  apply Fin.ext
  match b with
  | ⟨0, _⟩ => show win0_0.index t 0 * 4096 + 1 * p.val = t.val * 4096 + p.val; rw [h0]; omega
  | ⟨1, _⟩ => show win0_0.index t 1 * 3 + 1 * a.val = a.val; rw [h1]; omega

/-- The blocks of the four node arrays are the arrays: the coordinates, -/
theorem block1 (c : Dev nD) (t : Fin cfg0.N) : (iblk m c 1 t : Vec Ideal S3x512 .f32) = nodes m c := by
  funext j
  obtain ⟨-, -, h, -⟩ := idx_facts t
  unfold nodes iblk
  rw [View.read_apply]
  show V m c main_v3 _ = V m c main_v3 _
  congr 1
  funext b
  apply Fin.ext
  match b with
  | ⟨0, _⟩ => show win0_1.index t 0 * 3 + 1 * (j 0).val = (j 0).val; rw [h]; omega
  | ⟨1, _⟩ => show win0_1.index t 1 * 512 + 1 * (j 1).val = (j 1).val; rw [h]; omega

/-- the squared lengths, -/
theorem block2 (c : Dev nD) (t : Fin cfg0.N) : (iblk m c 2 t : Vec Ideal S1x512 .f32) = lengths m c := by
  funext j
  obtain ⟨-, -, -, h, -⟩ := idx_facts t
  unfold lengths iblk
  rw [View.read_apply]
  show V m c main_v6 _ = V m c main_v6 _
  congr 1
  funext b
  apply Fin.ext
  match b with
  | ⟨0, _⟩ => show win0_2.index t 0 * 1 + 1 * (j 0).val = (j 0).val; rw [h]; omega
  | ⟨1, _⟩ => show win0_2.index t 1 * 512 + 1 * (j 1).val = (j 1).val; rw [h]; omega

/-- the factors, -/
theorem block3 (c : Dev nD) (t : Fin cfg0.N) : (iblk m c 3 t : Vec Ideal S1x512 .f32) = factors m c := by
  funext j
  obtain ⟨-, -, -, -, h, -⟩ := idx_facts t
  unfold factors iblk
  rw [View.read_apply]
  show V m c main_v13 _ = V m c main_v13 _
  congr 1
  funext b
  apply Fin.ext
  match b with
  | ⟨0, _⟩ => show win0_3.index t 0 * 1 + 1 * (j 0).val = (j 0).val; rw [h]; omega
  | ⟨1, _⟩ => show win0_3.index t 1 * 512 + 1 * (j 1).val = (j 1).val; rw [h]; omega

/-- and the raw weights. -/
theorem block4 (c : Dev nD) (t : Fin cfg0.N) : (iblk m c 4 t : Vec Ideal S1x512 .f32) = raws m c := by
  funext j
  obtain ⟨-, -, -, -, -, h, -⟩ := idx_facts t
  unfold raws iblk
  rw [View.read_apply]
  show V m c main_v14 _ = V m c main_v14 _
  congr 1
  funext b
  apply Fin.ext
  match b with
  | ⟨0, _⟩ => show win0_4.index t 0 * 1 + 1 * (j 0).val = (j 0).val; rw [h]; omega
  | ⟨1, _⟩ => show win0_4.index t 1 * 512 + 1 * (j 1).val = (j 1).val; rw [h]; omega

/-- The normalised weights of every row of the padded points. -/
def weights (c : Dev nD) : Vec Ideal S102400x3 .f32 := fun i =>
  normal (at_ m c (i 0)) (nodes m c) (lengths m c) (factors m c) (raws m c) (i 1)
/-- The squared distances of every row of the padded points. -/
def nears (c : Dev nD) : Vec Ideal S102400x3 .f32 := fun i =>
  near (at_ m c (i 0)) (nodes m c) (lengths m c) (i 1)
/-- The columns of every row of the padded points. -/
def columns (c : Dev nD) : Vec Ideal S102400x3 .i32 := fun i =>
  column (at_ m c (i 0)) (nodes m c) (lengths m c) (i 1)

/-! ## The weights' array -/

/-- Entry `(p, k)` of block `t` of the weights' array is entry `(4096 t + p, k)` of the array. -/
theorem read5 (G : Vec Ideal S102400x3 .f32) (t : Fin cfg0.N) (p : Fin 4096) (k : Fin 3) :
    ((cfg0.win 5).blk t).view.read (Elt Ideal) G (ix2 p k) = G (ix2 (deep t p) k) := by
  obtain ⟨-, -, -, -, -, -, h0, h1, -⟩ := idx_facts t
  rw [View.read_apply]
  show G _ = G _
  congr 1
  funext b
  apply Fin.ext
  match b with
  | ⟨0, _⟩ => show win0_5.index t 0 * 4096 + 1 * p.val = t.val * 4096 + p.val; rw [h0]; omega
  | ⟨1, _⟩ => show win0_5.index t 1 * 3 + 1 * k.val = k.val; rw [h1]; omega

/-- The weights' block after point `t`, entry by entry. -/
theorem after5 (c : Dev nD) (t : Fin cfg0.N) (p : Fin 4096) (k : Fin 3) :
    out0_5 (iblk m c 0 t) (iblk m c 1 t) (iblk m c 2 t) (iblk m c 3 t) (iblk m c 4 t) (ix2 p k)
      = weights m c (ix2 (deep t p) k) := by
  rw [block1, block2, block3, block4, out5_eq, block0]
  rfl

/-- What point `t` writes back to the weights' array is block `t` of `weights`. -/
theorem flushed5 (c : Dev nD) (t : Fin cfg0.N) :
    (dats m 0 c).flushed 5 t = ((cfg0.win 5).blk t).view.read (Elt Ideal) (weights m c) := by
  show (cfg0.win 5).cut (grid0.coords t) ((dats m 0 c).after 5 t) = _
  rw [after0_5]
  funext (j : S4096x3.Idx)
  idx_vars j
  exact (after5 m c t j0 j1).trans (read5 (weights m c) t j0 j1).symm

/-- Every row of the weights' array is in some point's block. -/
theorem cover5 (i : S102400x3.Idx) :
    ∃ t : Fin cfg0.N, (cfg0.win 5).flush t = true ∧ i ∈ ((cfg0.win 5).blk t).view.set := by
  have h0 : (i 0 : Nat) < 102400 := (i 0).isLt
  have h1 : (i 1 : Nat) < 3 := (i 1).isLt
  have ht : (i 0 : Nat) / 4096 < 25 := by omega
  let t : Fin cfg0.N := ⟨(i 0 : Nat) / 4096, ht⟩
  obtain ⟨-, -, -, -, -, -, e0, e1, -⟩ := idx_facts t
  refine ⟨t, flush0_5 t, ?_⟩
  show i ∈ ((View.whole main_v15_0).slice (win0_5.rect t)).set
  rw [View.set_slice_whole, Rect.mem_set_unit]
  intro a
  match a with
  | ⟨0, _⟩ =>
    show win0_5.index t 0 * 4096 ≤ (i 0 : Nat) ∧ (i 0 : Nat) < win0_5.index t 0 * 4096 + 4096
    rw [e0]
    show (i 0 : Nat) / 4096 * 4096 ≤ (i 0 : Nat) ∧ (i 0 : Nat) < (i 0 : Nat) / 4096 * 4096 + 4096
    omega
  | ⟨1, _⟩ =>
    show win0_5.index t 1 * 3 ≤ (i 1 : Nat) ∧ (i 1 : Nat) < win0_5.index t 1 * 3 + 3
    rw [e1]; omega

/-- So the weights' array ends as `weights`. -/
theorem final5 (c : Dev nD) : (dats m 0 c).arrAt 5 cfg0.N = weights m c :=
  (dats m 0 c).arrAt_eq_of_cover 5 (weights m c) (fun t _ => flushed5 m c t) cover5

/-! ## The distances' array -/

/-- Entry `(p, k)` of block `t` of the distances' array is entry `(4096 t + p, k)` of the array. -/
theorem read6 (G : Vec Ideal S102400x3 .f32) (t : Fin cfg0.N) (p : Fin 4096) (k : Fin 3) :
    ((cfg0.win 6).blk t).view.read (Elt Ideal) G (ix2 p k) = G (ix2 (deep t p) k) := by
  obtain ⟨-, -, -, -, -, -, -, -, h0, h1, -⟩ := idx_facts t
  rw [View.read_apply]
  show G _ = G _
  congr 1
  funext b
  apply Fin.ext
  match b with
  | ⟨0, _⟩ => show win0_6.index t 0 * 4096 + 1 * p.val = t.val * 4096 + p.val; rw [h0]; omega
  | ⟨1, _⟩ => show win0_6.index t 1 * 3 + 1 * k.val = k.val; rw [h1]; omega

/-- The distances' block after point `t`, entry by entry. -/
theorem after6 (c : Dev nD) (t : Fin cfg0.N) (p : Fin 4096) (k : Fin 3) :
    out0_6 (iblk m c 0 t) (iblk m c 1 t) (iblk m c 2 t) (iblk m c 3 t) (iblk m c 4 t) (ix2 p k)
      = nears m c (ix2 (deep t p) k) := by
  rw [block1, block2, out6_eq, block0]
  rfl

/-- What point `t` writes back to the distances' array is block `t` of `nears`. -/
theorem flushed6 (c : Dev nD) (t : Fin cfg0.N) :
    (dats m 0 c).flushed 6 t = ((cfg0.win 6).blk t).view.read (Elt Ideal) (nears m c) := by
  show (cfg0.win 6).cut (grid0.coords t) ((dats m 0 c).after 6 t) = _
  rw [after0_6]
  funext (j : S4096x3.Idx)
  idx_vars j
  exact (after6 m c t j0 j1).trans (read6 (nears m c) t j0 j1).symm

/-- Every row of the distances' array is in some point's block. -/
theorem cover6 (i : S102400x3.Idx) :
    ∃ t : Fin cfg0.N, (cfg0.win 6).flush t = true ∧ i ∈ ((cfg0.win 6).blk t).view.set := by
  have h0 : (i 0 : Nat) < 102400 := (i 0).isLt
  have h1 : (i 1 : Nat) < 3 := (i 1).isLt
  have ht : (i 0 : Nat) / 4096 < 25 := by omega
  let t : Fin cfg0.N := ⟨(i 0 : Nat) / 4096, ht⟩
  obtain ⟨-, -, -, -, -, -, -, -, e0, e1, -⟩ := idx_facts t
  refine ⟨t, flush0_6 t, ?_⟩
  show i ∈ ((View.whole main_v15_1).slice (win0_6.rect t)).set
  rw [View.set_slice_whole, Rect.mem_set_unit]
  intro a
  match a with
  | ⟨0, _⟩ =>
    show win0_6.index t 0 * 4096 ≤ (i 0 : Nat) ∧ (i 0 : Nat) < win0_6.index t 0 * 4096 + 4096
    rw [e0]
    show (i 0 : Nat) / 4096 * 4096 ≤ (i 0 : Nat) ∧ (i 0 : Nat) < (i 0 : Nat) / 4096 * 4096 + 4096
    omega
  | ⟨1, _⟩ =>
    show win0_6.index t 1 * 3 ≤ (i 1 : Nat) ∧ (i 1 : Nat) < win0_6.index t 1 * 3 + 3
    rw [e1]; omega

/-- So the distances' array ends as `nears`. -/
theorem final6 (c : Dev nD) : (dats m 0 c).arrAt 6 cfg0.N = nears m c :=
  (dats m 0 c).arrAt_eq_of_cover 6 (nears m c) (fun t _ => flushed6 m c t) cover6

/-! ## The columns' array -/

/-- Entry `(p, k)` of block `t` of the columns' array is entry `(4096 t + p, k)` of the array. -/
theorem read7 (G : Vec Ideal S102400x3 .i32) (t : Fin cfg0.N) (p : Fin 4096) (k : Fin 3) :
    ((cfg0.win 7).blk t).view.read (Elt Ideal) G (ix2 p k) = G (ix2 (deep t p) k) := by
  obtain ⟨-, -, -, -, -, -, -, -, -, -, h0, h1⟩ := idx_facts t
  rw [View.read_apply]
  show G _ = G _
  congr 1
  funext b
  apply Fin.ext
  match b with
  | ⟨0, _⟩ => show win0_7.index t 0 * 4096 + 1 * p.val = t.val * 4096 + p.val; rw [h0]; omega
  | ⟨1, _⟩ => show win0_7.index t 1 * 3 + 1 * k.val = k.val; rw [h1]; omega

/-- The columns' block after point `t`, entry by entry. -/
theorem after7 (c : Dev nD) (t : Fin cfg0.N) (p : Fin 4096) (k : Fin 3) :
    out0_7 (iblk m c 0 t) (iblk m c 1 t) (iblk m c 2 t) (iblk m c 3 t) (iblk m c 4 t) (ix2 p k)
      = columns m c (ix2 (deep t p) k) := by
  rw [block1, block2, out7_eq, block0]
  rfl

/-- What point `t` writes back to the columns' array is block `t` of `columns`. -/
theorem flushed7 (c : Dev nD) (t : Fin cfg0.N) :
    (dats m 0 c).flushed 7 t = ((cfg0.win 7).blk t).view.read (Elt Ideal) (columns m c) := by
  show (cfg0.win 7).cut (grid0.coords t) ((dats m 0 c).after 7 t) = _
  rw [after0_7]
  funext (j : S4096x3.Idx)
  idx_vars j
  exact (after7 m c t j0 j1).trans (read7 (columns m c) t j0 j1).symm

/-- Every row of the columns' array is in some point's block. -/
theorem cover7 (i : S102400x3.Idx) :
    ∃ t : Fin cfg0.N, (cfg0.win 7).flush t = true ∧ i ∈ ((cfg0.win 7).blk t).view.set := by
  have h0 : (i 0 : Nat) < 102400 := (i 0).isLt
  have h1 : (i 1 : Nat) < 3 := (i 1).isLt
  have ht : (i 0 : Nat) / 4096 < 25 := by omega
  let t : Fin cfg0.N := ⟨(i 0 : Nat) / 4096, ht⟩
  obtain ⟨-, -, -, -, -, -, -, -, -, -, e0, e1⟩ := idx_facts t
  refine ⟨t, flush0_7 t, ?_⟩
  show i ∈ ((View.whole main_v15_2).slice (win0_7.rect t)).set
  rw [View.set_slice_whole, Rect.mem_set_unit]
  intro a
  match a with
  | ⟨0, _⟩ =>
    show win0_7.index t 0 * 4096 ≤ (i 0 : Nat) ∧ (i 0 : Nat) < win0_7.index t 0 * 4096 + 4096
    rw [e0]
    show (i 0 : Nat) / 4096 * 4096 ≤ (i 0 : Nat) ∧ (i 0 : Nat) < (i 0 : Nat) / 4096 * 4096 + 4096
    omega
  | ⟨1, _⟩ =>
    show win0_7.index t 1 * 3 ≤ (i 1 : Nat) ∧ (i 1 : Nat) < win0_7.index t 1 * 3 + 3
    rw [e1]; omega

/-- So the columns' array ends as `columns`. -/
theorem final7 (c : Dev nD) : (dats m 0 c).arrAt 7 cfg0.N = columns m c :=
  (dats m 0 c).arrAt_eq_of_cover 7 (columns m c) (fun t _ => flushed7 m c t) cover7

end Cert.Proof.Arrays

end
-- ==== Proof.Launch.lean ====
/-
  The arrays the region finds, entry by entry, from the program's arguments; and the program's three results as the
  leading 100000 rows of the region's three result arrays.
-/
module

public import proofs.«01_k».proof.Proof.Arrays
public import Idealize.ShloMosaic.Lib.StableHlo.Run

@[expose] public section

set_option maxRecDepth 16384

noncomputable section

namespace Cert.Proof.Launch

open Idealize.ShloMosaic Idealize.ShloMosaic.TcCoe Idealize.SL.Sem
open Cert.KernelIdeal Cert.KernelIdeal.Gen Cert.Proof.Block Cert.Proof.Arrays Cert.Proof.Reals

variable (m : (ℓ : Loc nD τ sig) → Buf (Elt Ideal) ℓ) (c : Dev nD)

/-- The point coordinates the program is given, -/
def argX : Vec Ideal S100000x3 .f32 := m ((c : Thread nD τ).loc main_arg0)
/-- the node coordinates, -/
def argN : Vec Ideal S512x3 .f32 := m ((c : Thread nD τ).loc main_arg3)
/-- the raw radii, -/
def argR : Vec Ideal S512 .f32 := m ((c : Thread nD τ).loc main_arg4)
/-- and the raw node weights. -/
def argW : Vec Ideal S512x1 .f32 := m ((c : Thread nD τ).loc main_arg5)

/-- Row `r < 100000` of the padded points is the given row. -/
theorem points_apply (r : Fin 100000) (a : Fin 3) :
    points m c (ix2 ⟨r.val, by omega⟩ a) = argX m c (ix2 r a) := by
  have h : points m c = pad S102400x3 ![0, 0] ![2400, 0] ![0, 0] (argX m c) (sitofp (F := Ideal) .f32 (constantI S_ 32 0#32))
      pads_S100000x3_S102400x3_024000_000 h_S_ := by
    unfold points argX
    show StableHlo.after _ _ _ = _
    simp only [List.flatten_cons, List.flatten_nil, List.append_nil, List.cons_append, List.nil_append]
    after_results_simp
    rfl
  rw [h]
  pointwise

/-- The scaled node coordinates. -/
theorem nodes_apply (a : Fin 3) (j : Fin 512) :
    nodes m c (ix2 a j) = ((-2 : ℝ) : EReal) * argN m c (ix2 j a) := by
  have h : nodes m c = mulf (F := Ideal) (broadcastInDim S3x512 ![] bcast_S_S3x512 (constant S_ .f32 0xC0000000#32))
      (transpose S3x512 [1, 0] (argN m c) transposes_S512x3_S3x512_1_0) := by
    unfold nodes argN
    show StableHlo.after _ _ _ = _
    simp only [List.flatten_cons, List.flatten_nil, List.append_nil, List.cons_append, List.nil_append]
    after_results_simp
  rw [h]
  pointwise [neg_two_bits]

/-- The nodes' squared lengths. -/
theorem lengths_apply (j : Fin 512) : lengths m c (ix2 0 j) = norm2 (fun a => argN m c (ix2 j a)) := by
  have h : lengths m c = shapeCast S1x512 (Host.reduceAdd (F := Ideal) (mulf (argN m c) (argN m c)) (constant S_ .f32 0x00000000#32)
      reducesTo_S512x3_S512_d1 h_S_) shapeCasts_S512_S1x512 := by
    unfold lengths argN
    show StableHlo.after _ _ _ = _
    simp only [List.flatten_cons, List.flatten_nil, List.append_nil, List.cons_append, List.nil_append]
    after_results_simp
    rfl
  rw [h]
  pointwise
  rfl

/-- The nodes' factors: the inverse of twice the squared radius. -/
theorem factors_apply (j : Fin 512) : factors m c (ix2 0 j)
    = Ideal.div ((1 : ℝ) : EReal) ((((2 : ℝ) : EReal) * Ideal.exp (argR m c (ix1 j))) * Ideal.exp (argR m c (ix1 j))) := by
  have h : factors m c = shapeCast S1x512 (Host.divf (F := Ideal) (broadcastInDim S512 ![] bcast_S_S512 (constant S_ .f32 0x3F800000#32))
      (mulf (mulf (broadcastInDim S512 ![] bcast_S_S512 (constant S_ .f32 0x40000000#32)) (Host.exp (argR m c))) (Host.exp (argR m c))))
      shapeCasts_S512_S1x512 := by
    unfold factors argR
    show StableHlo.after _ _ _ = _
    simp only [List.flatten_cons, List.flatten_nil, List.append_nil, List.cons_append, List.nil_append]
    after_results_simp
    rfl
  rw [h]
  pointwise [one_bits, two_bits]

/-- The first node's raw weight. -/
theorem raws_apply (j : Fin 512) : raws m c (ix2 0 j) = argW m c (ix2 j 0) := by
  have h : raws m c = shapeCast S1x512 (argW m c) shapeCasts_S512x1_S1x512 := by
    unfold raws argW
    show StableHlo.after _ _ _ = _
    simp only [List.flatten_cons, List.flatten_nil, List.append_nil, List.cons_append, List.nil_append]
    after_results_simp
    rfl
  rw [h]
  pointwise

/-- The program's first result: the leading rows of the weights' array. -/
theorem result0 : Pipeline.afterTail₀ cfgs (dats m) 0 (V0 m) [hostOps1] c main_v16
    = extractStridedSlice S100000x3 ![0, 0] (weights m c) slices_S102400x3_S100000x3_0_0 := by
  have e : Pipeline.withArrays (cfgs 0).spec c (V0 m c) (fun w => (dats m 0 c).arrAt w (cfgs 0).N) (Proc.devRef .tc main_v15_0)
      = weights m c :=
    (Pipeline.withArrays_arr spec0 (by decide) c (V0 m c) (fun w => (dats m 0 c).arrAt w (cfgs 0).N) 5).trans (final5 m c)
  unfold Pipeline.afterTail₀
  simp only [List.flatten_cons, List.flatten_nil, List.append_nil]
  after_results_simp
  rw [e]

/-- The program's second result: the leading rows of the distances' array. -/
theorem result1 : Pipeline.afterTail₀ cfgs (dats m) 0 (V0 m) [hostOps1] c main_v17
    = extractStridedSlice S100000x3 ![0, 0] (nears m c) slices_S102400x3_S100000x3_0_0 := by
  have e : Pipeline.withArrays (cfgs 0).spec c (V0 m c) (fun w => (dats m 0 c).arrAt w (cfgs 0).N) (Proc.devRef .tc main_v15_1)
      = nears m c :=
    (Pipeline.withArrays_arr spec0 (by decide) c (V0 m c) (fun w => (dats m 0 c).arrAt w (cfgs 0).N) 6).trans (final6 m c)
  unfold Pipeline.afterTail₀
  simp only [List.flatten_cons, List.flatten_nil, List.append_nil]
  after_results_simp
  rw [e]

/-- The program's third result: the leading rows of the columns' array. -/
theorem result2 : Pipeline.afterTail₀ cfgs (dats m) 0 (V0 m) [hostOps1] c main_v18
    = extractStridedSlice S100000x3 ![0, 0] (columns m c) slices_S102400x3_S100000x3_0_0 := by
  have e : Pipeline.withArrays (cfgs 0).spec c (V0 m c) (fun w => (dats m 0 c).arrAt w (cfgs 0).N) (Proc.devRef .tc main_v15_2)
      = columns m c :=
    (Pipeline.withArrays_arr spec0 (by decide) c (V0 m c) (fun w => (dats m 0 c).arrAt w (cfgs 0).N) 7).trans (final7 m c)
  unfold Pipeline.afterTail₀
  simp only [List.flatten_cons, List.flatten_nil, List.append_nil]
  after_results_simp
  rw [e]

/-- The kernel's run at the extended reals: its three results are the leading rows of the three arrays, and its six
    arguments end as they were. -/
theorem run (ρ : Dev nD → PrngReg) :
    θ_run defs (onTc (τ := τ) (main (F := Ideal))) ⟨m, fun _ => 0, ρ⟩ fun r => ∀ c : Dev nD,
      r.2.mem ((c : Thread nD τ).loc main_v16) = extractStridedSlice S100000x3 ![0, 0] (weights m c) slices_S102400x3_S100000x3_0_0
      ∧ r.2.mem ((c : Thread nD τ).loc main_v17) = extractStridedSlice S100000x3 ![0, 0] (nears m c) slices_S102400x3_S100000x3_0_0
      ∧ r.2.mem ((c : Thread nD τ).loc main_v18) = extractStridedSlice S100000x3 ![0, 0] (columns m c) slices_S102400x3_S100000x3_0_0
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v16 (Pipeline.mem_restRefs_of main_v16 (by decide) (by decide))).trans (result0 m c),
      ((h c).2 main_v17 (Pipeline.mem_restRefs_of main_v17 (by decide) (by decide))).trans (result1 m c),
      ((h c).2 main_v18 (Pipeline.mem_restRefs_of main_v18 (by decide) (by decide))).trans (result2 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.Proof.Launch

end
-- ==== Proof.Sorted.lean ====
/-
  The top-k of an array of rows, row by row.

  A row of 512 extended reals is sorted greatest first by one permutation of its columns; the first entries of the
  sorted row are the top-k's values and the columns they came from its indices. When the first four are strictly
  decreasing, the first three columns hold the three greatest values, each strictly above all that are not taken yet.
-/
module

public import Idealize.ShloMosaic.Lib.Pointwise
public import Idealize.ShloMosaic.Lib.SortFacts

@[expose] public section

noncomputable section

namespace Cert.Proof.Sorted

open Idealize.ShloMosaic

/-- The column whose value the stable sort of the row, greatest first, puts at place `k`. -/
def place (y : Fin 512 → EReal) (k : Fin 512) : Fin 512 :=
  sortedFrom (fun a b => FloatOps.cmpfTotal (F := Ideal) (φ := .f32) .gt (y a) (y b) == 1#1) k

/-- Different places come from different columns. -/
theorem place_injective (y : Fin 512 → EReal) : Function.Injective (place y) := sortedFrom_injective _

/-- Every column has a place. -/
theorem place_surjective (y : Fin 512 → EReal) : Function.Surjective (place y) := sortedFrom_surjective _

/-- The comparison the sort uses says "is greater". -/
theorem greater_iff (a b : EReal) :
    (FloatOps.cmpfTotal (F := Ideal) (φ := .f32) .gt a b == 1#1) = decide (b < a) := by
  show (Ideal.cmp .ogt a b == 1#1) = decide (b < a)
  unfold Ideal.cmp
  by_cases h : b < a <;> simp [h]

/-- A later place holds no greater value. -/
theorem place_antitone (y : Fin 512 → EReal) {i j : Fin 512} (h : i < j) : y (place y j) ≤ y (place y i) := by
  have e : place y = sortedFrom fun a b => decide (y b < y a) := by
    funext k
    unfold place
    simp only [greater_iff]
  have := sortedFrom_noInversion (fun a b => decide (y b < y a)) (fun a b => decide (y b < y a))
    (fun a b hab => by simp only [decide_eq_true_eq, decide_eq_false_iff_not, not_lt] at *; exact hab.le)
    (fun a b hab => hab)
    (fun a b c hab hbc => by
      simp only [decide_eq_false_iff_not, not_lt] at *
      exact hab.trans hbc) i j h
  rw [e]
  simpa only [decide_eq_false_iff_not, not_lt] using this

/-- The first `n` places, `n` at most 512, as a function of a short index. -/
def first {n : ℕ} (hn : n ≤ 512) (y : Fin 512 → EReal) (k : Fin n) : Fin 512 := place y (k.castLE hn)

/-- They are different columns. -/
theorem first_injective {n : ℕ} (hn : n ≤ 512) (y : Fin 512 → EReal) : Function.Injective (first hn y) :=
  fun _ _ e => Fin.castLE_injective hn (place_injective y e)

/-- When the first four values decrease strictly, each of the first three columns holds a value strictly above the
    value of every column that is neither it nor before it. -/
theorem first_lt (y : Fin 512 → EReal)
    (h : ∀ k : Fin 3, y (place y ⟨k + 1, by omega⟩) < y (place y ⟨k, by omega⟩)) (k : Fin 3) (j : Fin 512)
    (hj : ∀ l, l ≤ k → j ≠ first (n := 3) (by decide) y l) : y j < y (first (n := 3) (by decide) y k) := by
  obtain ⟨p, rfl⟩ := place_surjective y j
  have hp : k.val < p.val := by
    by_contra hlt
    have hle : p.val ≤ k.val := Nat.le_of_not_lt hlt
    exact hj ⟨p.val, by omega⟩ hle (congrArg (place y) (Fin.ext rfl))
  refine lt_of_le_of_lt ?_ (h k)
  rcases Nat.lt_or_eq_of_le (Nat.succ_le_of_lt hp) with hl | he
  · exact place_antitone y (Fin.lt_def.mpr hl)
  · exact (congrArg (fun q => y (place y q)) (Fin.ext he.symm)).le

variable {n : ℕ}

/-- Column `c` of the row through an index, by coordinates. -/
theorem along_eq (r : Fin 100000) (k c : Fin 512) :
    Shape.Idx.along (s := ⟨2, ![100000, 512]⟩) (ix2 r k) 1 c = ix2 r c := by
  funext a
  unfold Shape.Idx.along
  fin_cases a <;> simp [Function.update] <;> rfl

/-- Both results of the sort inside a top-k, at row `r` and place `k`. -/
theorem sorted_eq (x : (⟨2, ![100000, 512]⟩ : Shape).Idx → EReal)
    (i : (⟨2, ![100000, 512]⟩ : Shape).Idx → BitVec 32) (r : Fin 100000) (k : Fin 512) :
    (Host.sort2 ⟨2, ![100000, 512]⟩ 1
        (fun l m : EReal × BitVec 32 => FloatOps.cmpfTotal (F := Ideal) (φ := .f32) .gt l.1 m.1) x i).1 (ix2 r k)
      = x (ix2 r (place (fun c => x (ix2 r c)) k))
    ∧ (Host.sort2 ⟨2, ![100000, 512]⟩ 1
        (fun l m : EReal × BitVec 32 => FloatOps.cmpfTotal (F := Ideal) (φ := .f32) .gt l.1 m.1) x i).2 (ix2 r k)
      = i (ix2 r (place (fun c => x (ix2 r c)) k)) := by
  unfold Host.sort2 place
  rw [dif_pos (by decide : (1 : ℕ) < 2)]
  constructor
  · refine congrArg x ((along_eq r k _).trans (congrArg (ix2 r) ?_))
    refine congrArg (fun f => sortedFrom f k) (funext fun a => funext fun b => ?_)
    exact congrArg₂ (fun u v => FloatOps.cmpfTotal (F := Ideal) (φ := .f32) .gt (x u) (x v) == 1#1)
      (along_eq r k a) (along_eq r k b)
  · refine congrArg i ((along_eq r k _).trans (congrArg (ix2 r) ?_))
    refine congrArg (fun f => sortedFrom f k) (funext fun a => funext fun b => ?_)
    exact congrArg₂ (fun u v => FloatOps.cmpfTotal (F := Ideal) (φ := .f32) .gt (x u) (x v) == 1#1)
      (along_eq r k a) (along_eq r k b)

/-- The top-k's values of an array of rows: row `r`, place `k` holds the value of the column the sort puts there. -/
theorem topK_values (hn : n ≤ 512) (x : (⟨2, ![100000, 512]⟩ : Shape).Idx → EReal)
    (h : (⟨2, ![100000, 512]⟩ : Shape).Slices (fun _ => 0) ⟨2, ![100000, n]⟩) (r : Fin 100000) (k : Fin n) :
    (Host.topK ⟨2, ![100000, n]⟩ 1 (FloatOps.cmpfTotal (F := Ideal) (φ := .f32) .gt) x h).1 (ix2 r k)
      = x (ix2 r (first hn (fun c => x (ix2 r c)) k)) := by
  unfold Host.topK
  pointwise
  exact (sorted_eq x _ r ⟨k, by omega⟩).1

/-- The top-k's indices of an array of rows: row `r`, place `k` holds the column the sort puts there. -/
theorem topK_columns (hn : n ≤ 512) (x : (⟨2, ![100000, 512]⟩ : Shape).Idx → EReal)
    (h : (⟨2, ![100000, 512]⟩ : Shape).Slices (fun _ => 0) ⟨2, ![100000, n]⟩) (r : Fin 100000) (k : Fin n) :
    (Host.topK ⟨2, ![100000, n]⟩ 1 (FloatOps.cmpfTotal (F := Ideal) (φ := .f32) .gt) x h).2 (ix2 r k)
      = BitVec.ofNat 32 (first hn (fun c => x (ix2 r c)) k).val := by
  unfold Host.topK
  pointwise
  exact (sorted_eq x _ r ⟨k, by omega⟩).2

end Cert.Proof.Sorted

end
-- ==== Proof.Distances.lean ====
/-
  The array of negated squared distances, which the reference hands to its top-k and the precondition to its own.
-/
module

public import proofs.«01_k».proof.Proof.Gen.ReferenceIdeal
public import proofs.«01_k».proof.Proof.Reals
public import proofs.«01_k».proof.Proof.Sorted

@[expose] public section

set_option maxRecDepth 16384

noncomputable section

namespace Cert.Proof.Distances

open Idealize.ShloMosaic Cert.ReferenceIdeal Cert.ReferenceIdeal.Gen
open Cert.Proof.Reals Cert.Proof.Sorted

variable (x : FVec Ideal S100000x3 .f32) (n : FVec Ideal S512x3 .f32)

/-- The negated squared distance of every point from every node, as both programs spell it. -/
def opposite : FVec Ideal S100000x512 .f32 :=
  Host.negf (subf
    (addf
      (broadcastInDim S100000x512 ![0, 1] bcast_S100000x1_S100000x512_0_1
        (broadcastInDim S100000x1 ![0] bcast_S100000_S100000x1_0
          (Host.reduceAdd (mulf x x) (constant S_ .f32 0x00000000#32) reducesTo_S100000x3_S100000_d1 h_S_)))
      (broadcastInDim S100000x512 ![0, 1] bcast_S1x512_S100000x512_0_1
        (broadcastInDim S1x512 ![1] bcast_S512_S1x512_1
          (Host.reduceAdd (mulf n n) (constant S_ .f32 0x00000000#32) reducesTo_S512x3_S512_d1 h_S_))))
    (mulf (broadcastInDim S100000x512 ![] bcast_S_S100000x512 (constant S_ .f32 0x40000000#32))
      (Host.dotGeneral dot_S100000x3_S3x512_S100000x512_1_0_0_1_n_n none x
        (transpose S3x512 [1, 0] n transposes_S512x3_S3x512_1_0))))

/-- A point's coordinates. -/
def pt (r : Fin 100000) : Fin 3 → EReal := fun a => x (ix2 r a)
/-- A node's coordinates. -/
def nd (j : Fin 512) : Fin 3 → EReal := fun a => n (ix2 j a)
/-- A point's negated squared distances from the 512 nodes. -/
def away (r : Fin 100000) : Fin 512 → EReal := fun j => -(dist (pt x r) (nd n j))
/-- The three nodes nearest a point, nearest first, as the sort of its negated squared distances has them. -/
def nearest (r : Fin 100000) : Fin 3 → Fin 512 := first (n := 3) (by decide) (away x n r)

/-- The array, entry by entry. -/
theorem opposite_apply (r : Fin 100000) (j : Fin 512) : opposite x n (ix2 r j) = away x n r j := by
  pointwise [opposite, two_bits]
  rfl

/-- A row of the array. -/
theorem opposite_row (r : Fin 100000) : (fun j => opposite x n (ix2 r j)) = away x n r :=
  funext (opposite_apply x n r)

end Cert.Proof.Distances

end
-- ==== Proof.Pre.lean ====
/-
  What the precondition says of the arrays: every row's four nearest nodes are at strictly increasing distances, the
  nodes are finite, the raw radii are not `-∞`, and the raw weights are all equal.
-/
module

public import proofs.«01_k».proof.Pre_separated
public import proofs.«01_k».proof.Proof.Distances
public import Idealize.ShloMosaic.Lib.Decide
public import Idealize.ShloMosaic.Lib.Pointwise

@[expose] public section

set_option maxRecDepth 16384
set_option Elab.async false

noncomputable section

namespace Cert.Proof.Pre

open Idealize.ShloMosaic Cert.Pre_separated
open Cert.Proof.Reals Cert.Proof.Sorted Cert.Proof.Distances

/-- The shape relations the precondition's operations take. -/
theorem facts : Facts where
  reducesTo_S100000x3_S100000_d1 := by decide
  h_S_ := by decide
  bcast_S100000_S100000x1_0 := by decide
  reducesTo_S512x3_S512_d1 := by decide
  bcast_S512_S1x512_1 := by decide
  bcast_S100000x1_S100000x512_0_1 := by decide
  bcast_S1x512_S100000x512_0_1 := by decide
  transposes_S512x3_S3x512_1_0 := by decide
  bcast_S_S100000x512 := by decide
  sliceFits_S100000x512_S100000x4 := by decide
  slices_S100000x4_S100000x3_0_0 := by decide
  slices_S100000x4_S100000x3_0_1 := by decide
  slices_S512x1_S1x1_0_0 := by decide
  bcast_S1x1_S512x1_0_1 := by decide
  bcast_S_S512x3 := by decide
  bcast_S_S512 := by decide
  dot_S100000x3_S3x512_S100000x512_1_0_0_1_n_n_wf := by decide

instance : Facts := facts

/-- The precondition, read entry by entry: in every row the four largest negated distances strictly decrease; the nodes
    are finite; no raw radius is `-∞`; the raw weights are all the first one. -/
structure Separated (x : FVec Ideal S100000x3 .f32) (n : FVec Ideal S512x3 .f32) (ρ : FVec Ideal S512 .f32)
    (w : FVec Ideal S512x1 .f32) : Prop where
  lt : ∀ (r : Fin 100000) (k : Fin 3), away x n r (place (away x n r) ⟨k.val + 1, by omega⟩)
    < away x n r (place (away x n r) ⟨k.val, by omega⟩)
  nodes : ∀ (j : Fin 512) (a : Fin 3), n (ix2 j a) ≠ ⊤ ∧ n (ix2 j a) ≠ ⊥
  radii : ∀ j : Fin 512, ρ (ix1 j) ≠ ⊥
  weights : ∀ j, w j = w (ix2 0 0)

/-- A number of magnitude below `⊤` is neither infinity. -/
theorem finite_of_abs {v : EReal} (h : max v (-v) < ⊤) : v ≠ ⊤ ∧ v ≠ ⊥ := by
  constructor
  · rintro rfl
    simp at h
  · rintro rfl
    simp at h

/-- A comparison's bit is `1` where the comparison holds. -/
theorem of_bit {a : Prop} [Decidable a] (h : BitVec.ofBool (decide a) = 1#1) : a := by
  by_contra ha
  rw [decide_eq_false ha] at h
  exact absurd h (by decide)

/-- The four largest of each row. -/
def four (y : FVec Ideal S100000x512 .f32) : FVec Ideal S100000x4 .f32 :=
  (Host.topK S100000x4 1 (FloatOps.cmpfTotal .gt) y Facts.sliceFits_S100000x512_S100000x4).1

/-- Place `k` of row `r` of them. -/
theorem four_apply (x : FVec Ideal S100000x3 .f32) (n : FVec Ideal S512x3 .f32) (r : Fin 100000) (k : Fin 4) :
    four (opposite x n) (ix2 r k) = away x n r (place (away x n r) (k.castLE (by decide))) := by
  have h := topK_values (by decide) (opposite x n) Facts.sliceFits_S100000x512_S100000x4 r k
  rw [opposite_row, opposite_apply] at h
  exact h

variable (x : FVec Ideal S100000x3 .f32) (p : FVec Ideal S100000x2 .f32) (q : FVec Ideal S512x2 .f32)
  (n : FVec Ideal S512x3 .f32) (ρ : FVec Ideal S512 .f32) (w : FVec Ideal S512x1 .f32)

/-- The precondition's first array compares neighbouring places of the four largest. -/
theorem fn_fst : (fn x p q n ρ w).1
    = cmpf .ogt (extractStridedSlice S100000x3 ![0, 0] (four (opposite x n)) Facts.slices_S100000x4_S100000x3_0_0)
        (extractStridedSlice S100000x3 ![0, 1] (four (opposite x n)) Facts.slices_S100000x4_S100000x3_0_1) := rfl

/-- Its second compares the nodes' magnitudes with infinity. -/
theorem fn_snd : (fn x p q n ρ w).2.1
    = cmpf .olt (Host.absf n) (broadcastInDim S512x3 ![] Facts.bcast_S_S512x3 (constant S_ .f32 0x7F800000#32)) := rfl

/-- Its third compares the raw radii with `-∞`. -/
theorem fn_trd : (fn x p q n ρ w).2.2.1
    = cmpf .ogt ρ (broadcastInDim S512 ![] Facts.bcast_S_S512 (constant S_ .f32 0xFF800000#32)) := rfl

/-- Its fourth compares the raw weights with the first. -/
theorem fn_fth : (fn x p q n ρ w).2.2.2
    = cmpf .oeq w (broadcastInDim S512x1 ![0, 1] Facts.bcast_S1x1_S512x1_0_1
        (extractStridedSlice S1x1 ![0, 0] w Facts.slices_S512x1_S1x1_0_0)) := rfl

/-- Where the precondition's four arrays hold `1` everywhere, it holds entry by entry. -/
theorem separated (h : (fn x p q n ρ w).1 = (fun _ => 1#1) ∧ (fn x p q n ρ w).2.1 = (fun _ => 1#1)
    ∧ (fn x p q n ρ w).2.2.1 = (fun _ => 1#1) ∧ (fn x p q n ρ w).2.2.2 = (fun _ => 1#1)) :
    Separated x n ρ w := by
  rw [fn_fst, fn_snd, fn_trd, fn_fth] at h
  obtain ⟨h₁, h₂, h₃, h₄⟩ := h
  refine ⟨fun r k => ?_, fun j a => ?_, fun j => ?_, fun i => ?_⟩
  · have e := congrFun h₁ (ix2 r k)
    pointwise [four_apply] at e
    have e := of_bit e
    simp only [Nat.add_comm 1] at e
    exact e
  · have e := congrFun h₂ (ix2 j a)
    pointwise [top_bits] at e
    exact finite_of_abs (of_bit e)
  · have e := congrFun h₃ (ix1 j)
    pointwise [bot_bits] at e
    exact (of_bit e).ne'
  · idx_vars i
    have e := congrFun h₄ (ix2 i0 i1)
    pointwise at e
    exact of_bit e

end Cert.Proof.Pre

end
-- ==== Proof.Reference.lean ====
/-
  The reference's three results, entry by entry: the nearest nodes' squared distances, their numbers, and their
  normalised weights.
-/
module

public import proofs.«01_k».proof.Proof.Gen.ReferenceIdeal.Run
public import proofs.«01_k».proof.Proof.Distances
public import Idealize.ShloMosaic.Lib.ValueIdxCore
public import Idealize.ShloMosaic.Lib.Pointwise

@[expose] public section

set_option maxRecDepth 16384

noncomputable section

namespace Cert.Proof.Reference

open Idealize.ShloMosaic Idealize.ShloMosaic.TcCoe Cert.ReferenceIdeal Cert.ReferenceIdeal.Gen
open Cert.Proof.Reals Cert.Proof.Sorted Cert.Proof.Distances

variable (x : FVec Ideal S100000x3 .f32) (n : FVec Ideal S512x3 .f32) (ρ : FVec Ideal S512 .f32) (w : FVec Ideal S512x1 .f32)

/-- The nearest nodes' squared distances, as the reference spells them. -/
def distances : FVec Ideal S100000x3 .f32 :=
  Host.negf (Host.topK S100000x3 1 (FloatOps.cmpfTotal .gt) (opposite x n) sliceFits_S100000x512_S100000x3).1

/-- The nearest nodes' numbers, as the reference spells them. -/
def numbers : IVec S100000x3 32 :=
  (Host.topK S100000x3 1 (FloatOps.cmpfTotal (F := Ideal) (φ := .f32) .gt) (opposite x n) sliceFits_S100000x512_S100000x3).2

/-- The numbers as the reference indexes by them: a negative one moved up by 512. -/
def wrapped : IVec S100000x3 32 :=
  select (cmpi .slt (numbers x n) (broadcastInDim S100000x3 ![] bcast_S_S100000x3 (constantI S_ 32 0#32)))
    (addi (numbers x n) (broadcastInDim S100000x3 ![] bcast_S_S100000x3 (constantI S_ 32 512#32))) (numbers x n)

/-- The nearest nodes' radii. -/
def radii : FVec Ideal S100000x3 .f32 :=
  Host.gather gather_S512_S100000x3x1_S100000x3_n_0_n_n_0_2_1 (Host.exp ρ)
    (broadcastInDim S100000x3x1 ![0, 1] bcast_S100000x3_S100000x3x1_0_1 (wrapped x n))

/-- The nodes' logistic weights. -/
def gates : FVec Ideal S512x1 .f32 :=
  Host.divf (broadcastInDim S512x1 ![] bcast_S_S512x1 (constant S_ .f32 0x3F800000#32))
    (addf (broadcastInDim S512x1 ![] bcast_S_S512x1 (constant S_ .f32 0x3F800000#32)) (Host.exp (Host.negf w)))

/-- The nearest nodes' logistic weights. -/
def gated : FVec Ideal S100000x3x1 .f32 :=
  Host.gather gather_S512x1_S100000x3x1_S100000x3x1_2_0_n_n_0_2_11 (gates w)
    (broadcastInDim S100000x3x1 ![0, 1] bcast_S100000x3_S100000x3x1_0_1 (wrapped x n))

/-- The weights before normalisation. -/
def raw : FVec Ideal S100000x3 .f32 :=
  addf
    (mulf
      (Host.exp (Host.divf (Host.negf (distances x n))
        (mulf (broadcastInDim S100000x3 ![] bcast_S_S100000x3 (constant S_ .f32 0x40000000#32)) (mulf (radii x n ρ) (radii x n ρ)))))
      (shapeCast S100000x3 (gated x n w) shapeCasts_S100000x3x1_S100000x3))
    (broadcastInDim S100000x3 ![] bcast_S_S100000x3 (constant S_ .f32 0x33D6BF95#32))

/-- The normalised weights, as the reference spells them. -/
def shares : FVec Ideal S100000x3 .f32 :=
  Host.divf (raw x n ρ w)
    (broadcastInDim S100000x3 ![0, 1] bcast_S100000x1_S100000x3_0_1
      (broadcastInDim S100000x1 ![0] bcast_S100000_S100000x1_0
        (Host.reduceAdd (raw x n ρ w) (constant S_ .f32 0x00000000#32) reducesTo_S100000x3_S100000_d1 h_S_)))

/-- The squared distances: place `k` of row `r` has the distance of the `k`-th nearest node. -/
theorem distances_apply (r : Fin 100000) (k : Fin 3) :
    distances x n (ix2 r k) = dist (pt x r) (nd n (nearest x n r k)) := by
  have h := topK_values (by decide) (opposite x n) sliceFits_S100000x512_S100000x3 r k
  rw [opposite_row, opposite_apply] at h
  show -((Host.topK S100000x3 1 (FloatOps.cmpfTotal (F := Ideal) (φ := .f32) .gt) (opposite x n) sliceFits_S100000x512_S100000x3).1 (ix2 r k)) = _
  rw [h]
  exact neg_neg _

/-- The numbers: place `k` of row `r` has the `k`-th nearest node's. -/
theorem numbers_apply (r : Fin 100000) (k : Fin 3) :
    numbers x n (ix2 r k) = BitVec.ofNat 32 (nearest x n r k).val := by
  have h := topK_columns (by decide) (opposite x n) sliceFits_S100000x512_S100000x3 r k
  rw [opposite_row] at h
  exact h

/-- A node's number is no negative word. -/
theorem not_negative : ∀ s : Fin 512, IntOp.cmpi .slt (BitVec.ofNat 32 s.val) 0#32 = 0#1 := by decide +kernel

/-- No number is moved. -/
theorem wrapped_apply (r : Fin 100000) (k : Fin 3) :
    wrapped x n (ix2 r k) = BitVec.ofNat 32 (nearest x n r k).val := by
  pointwise [wrapped, numbers_apply]
  rw [not_negative]
  exact ValueIdx.select_zero _ _

/-- A node's number, read back and clamped into the table, is itself. -/
theorem clamped : ∀ s : Fin 512, min (BitVec.ofNat 32 s.val).toInt.toNat (512 - 1) = s.val := by decide +kernel

/-- The radii: place `k` of row `r` has the `k`-th nearest node's. -/
theorem radii_apply (r : Fin 100000) (k : Fin 3) :
    radii x n ρ (ix2 r k) = Ideal.exp (ρ (ix1 (nearest x n r k))) := by
  unfold radii
  refine (ValueIdx.gather_take_apply (by decide) gather_S512_S100000x3x1_S100000x3_n_0_n_n_0_2_1_wf _ _ _).trans ?_
  have h : (broadcastInDim S100000x3x1 ![0, 1] bcast_S100000x3_S100000x3x1_0_1 (wrapped x n)) (ValueIdx.takeIdx (ix2 r k))
      = BitVec.ofNat 32 (nearest x n r k).val := by
    rw [← wrapped_apply]
    show wrapped x n _ = wrapped x n _
    congr 1
    funext a
    match a with
    | ⟨0, _⟩ => rfl
    | ⟨1, _⟩ => rfl
  refine congrArg (fun i : Fin 512 => Ideal.exp (ρ (ix1 i))) (Fin.ext ?_)
  show min (BitVec.toInt _).toNat (512 - 1) = _
  rw [h]
  exact clamped _

/-- With equal raw weights every gathered logistic weight is the first node's. -/
theorem gated_apply (hw : ∀ j, w j = w (ix2 0 0)) (i : S100000x3x1.Idx) :
    gated x n w i = Ideal.div ((1 : ℝ) : EReal) (((1 : ℝ) : EReal) + Ideal.exp (-(w (ix2 0 0)))) := by
  have h : ∀ i, gates w i = Ideal.div ((1 : ℝ) : EReal) (((1 : ℝ) : EReal) + Ideal.exp (-(w i))) := by
    intro i
    idx_vars i
    pointwise [gates, one_bits]
  rw [← hw ((gather_S512x1_S100000x3x1_S100000x3x1_2_0_n_n_0_2_11).operandIdx i _)]
  exact h _

/-- The `k`-th nearest node's weight before normalisation, the nodes' raw weights all equal. -/
def share (r : Fin 100000) (k : Fin 3) : EReal :=
  Ideal.exp (Ideal.div (-(dist (pt x r) (nd n (nearest x n r k))))
      (((2 : ℝ) : EReal) * (Ideal.exp (ρ (ix1 (nearest x n r k))) * Ideal.exp (ρ (ix1 (nearest x n r k))))))
    * Ideal.div ((1 : ℝ) : EReal) (((1 : ℝ) : EReal) + Ideal.exp (-(w (ix2 0 0))))
    + Ideal.ofBits .f32 0x33D6BF95#32

/-- The weights before normalisation. -/
theorem raw_apply (hw : ∀ j, w j = w (ix2 0 0)) (r : Fin 100000) (k : Fin 3) :
    raw x n ρ w (ix2 r k) = share x n ρ w r k := by
  pointwise [raw, distances_apply, radii_apply, two_bits]
  rw [gated_apply x n w hw]
  rfl

/-- The normalised weights. -/
theorem shares_apply (hw : ∀ j, w j = w (ix2 0 0)) (r : Fin 100000) (k : Fin 3) :
    shares x n ρ w (ix2 r k)
      = Ideal.div (share x n ρ w r k) (share x n ρ w r 0 + share x n ρ w r 1 + share x n ρ w r 2) := by
  pointwise [shares]
  simp only [raw_apply x n ρ w hw, Fin.sum_univ_three]

end Cert.Proof.Reference

end
-- ==== Proof.Rows.lean ====
/-
  Under the precondition, a row of the kernel is a row of the reference: the kernel's three rounds find the three
  nearest nodes, and their squared distances, numbers and normalised weights are the reference's.
-/
module

public import proofs.«01_k».proof.Proof.Block
public import proofs.«01_k».proof.Proof.Pre
public import proofs.«01_k».proof.Proof.Reference

@[expose] public section

set_option maxRecDepth 16384

noncomputable section

namespace Cert.Proof.Rows

open Idealize.ShloMosaic Cert.ReferenceIdeal
open Cert.Proof.Rounds Cert.Proof.Reals Cert.Proof.Sorted Cert.Proof.Distances Cert.Proof.Pre
open Cert.Proof.Block (cost near column weight normal)
open Cert.Proof.Reference (share)

variable {x : FVec Ideal S100000x3 .f32} {n : FVec Ideal S512x3 .f32} {ρ : FVec Ideal S512 .f32} {w : FVec Ideal S512x1 .f32}

/-- Each of the three nearest nodes is strictly nearer than every node that is neither it nor before it. -/
theorem dist_lt (h : Separated x n ρ w) (r : Fin 100000) (k : Fin 3) (j : Fin 512) (hj : ∀ l, l ≤ k → j ≠ nearest x n r l) :
    dist (pt x r) (nd n (nearest x n r k)) < dist (pt x r) (nd n j) :=
  EReal.neg_lt_neg_iff.mp (first_lt (away x n r) (h.lt r) k j hj)

/-- The point of every row is finite: three different distances leave no room for an infinite coordinate. -/
theorem finite (h : Separated x n ρ w) (r : Fin 100000) (a : Fin 3) : pt x r a ≠ ⊤ ∧ pt x r a ≠ ⊥ :=
  finite_of_three (n := nd n) h.nodes (EReal.neg_lt_neg_iff.mp (h.lt r 0)) (EReal.neg_lt_neg_iff.mp (h.lt r 1)) a

/-- A node's squared distance is a real: the point's squared length plus the node's score, both reals. -/
theorem real (h : Separated x n ρ w) (r : Fin 100000) (j : Fin 512) :
    ∃ a b : ℝ, norm2 (pt x r) = a ∧ score (pt x r) (nd n j) = b ∧ dist (pt x r) (nd n j) = ((a + b : ℝ) : EReal) :=
  dist_eq (finite h r) (h.nodes j)

/-- A nearest node's score is strictly below that of every node that is neither it nor before it. -/
theorem score_lt (h : Separated x n ρ w) (r : Fin 100000) (k : Fin 3) (j : Fin 512) (hj : ∀ l, l ≤ k → j ≠ nearest x n r l) :
    score (pt x r) (nd n (nearest x n r k)) < score (pt x r) (nd n j) := by
  obtain ⟨a, b, ha, hb, hd⟩ := real h r (nearest x n r k)
  obtain ⟨a', b', ha', hb', hd'⟩ := real h r j
  have hl := dist_lt h r k j hj
  obtain rfl : a = a' := EReal.coe_injective (ha.symm.trans ha')
  rw [hd, hd', EReal.coe_lt_coe_iff] at hl
  rw [hb, hb', EReal.coe_lt_coe_iff]
  exact (add_lt_add_iff_left a).mp hl

/-- A score is below `+∞`. -/
theorem score_lt_top (h : Separated x n ρ w) (r : Fin 100000) (j : Fin 512) : score (pt x r) (nd n j) < ⊤ := by
  obtain ⟨a, b, -, hb, -⟩ := real h r j
  exact lt_of_eq_of_lt hb (EReal.coe_lt_top b)

/-- A row's scores. -/
def scores (x : FVec Ideal S100000x3 .f32) (n : FVec Ideal S512x3 .f32) (r : Fin 100000) : Fin 512 → EReal :=
  fun j => score (pt x r) (nd n j)

/-- The reference's three nearest nodes are what three rounds over the scores find. -/
theorem nearest_score (h : Separated x n ρ w) (r : Fin 100000) : Nearest (scores x n r) (nearest x n r) :=
  ⟨first_injective _ _, fun _ => score_lt_top h r _, score_lt h r⟩

variable {t : Vec Ideal Cert.KernelIdeal.S3x512 .f32} {b f v : Vec Ideal Cert.KernelIdeal.S1x512 .f32}

/-- What the kernel's node arrays hold: the coordinates times `-2`, the squared lengths, the inverses of twice the
    squared radii, and the raw weights. -/
structure Prepared (n : FVec Ideal S512x3 .f32) (ρ : FVec Ideal S512 .f32) (w : FVec Ideal S512x1 .f32)
    (t : Vec Ideal Cert.KernelIdeal.S3x512 .f32) (b f v : Vec Ideal Cert.KernelIdeal.S1x512 .f32) : Prop where
  nodes : ∀ a j, t (ix2 a j) = ((-2 : ℝ) : EReal) * n (ix2 j a)
  lengths : ∀ j, b (ix2 0 j) = norm2 (nd n j)
  factors : ∀ j, f (ix2 0 j)
    = Ideal.div ((1 : ℝ) : EReal) (((2 : ℝ) : EReal) * Ideal.exp (ρ (ix1 j)) * Ideal.exp (ρ (ix1 j)))
  raws : ∀ j, v (ix2 0 j) = w (ix2 j 0)

/-- The kernel's costs are the scores. -/
theorem cost_score (q : Prepared n ρ w t b f v) (r : Fin 100000) :
    cost (pt x r) t b = scores x n r := by
  funext j
  unfold cost scores score
  rw [q.lengths]
  congr 1
  exact Finset.sum_congr rfl fun c _ => by rw [q.nodes]; rfl

/-- The kernel's squared distances are the nearest nodes'. -/
theorem near_eq (h : Separated x n ρ w) (q : Prepared n ρ w t b f v) (r : Fin 100000) (k : Fin 3) :
    near (pt x r) t b k = dist (pt x r) (nd n (nearest x n r k)) := by
  obtain ⟨a, s, ha, hs, hd⟩ := real h r (nearest x n r k)
  unfold near
  rw [cost_score q, least_row (nearest_score h r), hd, EReal.coe_add, ha]
  exact congrArg _ hs

/-- The kernel's columns are the nearest nodes' numbers. -/
theorem column_eq (h : Separated x n ρ w) (q : Prepared n ρ w t b f v) (r : Fin 100000) (k : Fin 3) :
    column (pt x r) t b k = BitVec.ofNat 32 (nearest x n r k).val := by
  unfold column
  rw [cost_score q, beside_row (nearest_score h r) k
    (fun j => FloatOps.sitofp (F := Ideal) .f32 (BitVec.ofNat 32 j.val)) (word_le (nearest x n r k))]
  exact word_eq (nearest x n r k)

/-- The kernel's weights before normalisation are the reference's. -/
theorem weight_share (h : Separated x n ρ w) (q : Prepared n ρ w t b f v) (r : Fin 100000) (k : Fin 3) :
    weight (pt x r) t b f v k = share x n ρ w r k := by
  unfold weight share
  rw [near_eq h q, cost_score q, beside_row (nearest_score h r) k (fun j => f (ix2 0 j)) le_top, q.factors, q.raws,
    weight_eq (exp_ne_zero (h.radii _))]
  rfl

/-- The kernel's normalised weights are the reference's. -/
theorem normal_eq (h : Separated x n ρ w) (q : Prepared n ρ w t b f v) (r : Fin 100000) (k : Fin 3) :
    normal (pt x r) t b f v k
      = Ideal.div (share x n ρ w r k) (share x n ρ w r 0 + share x n ρ w r 1 + share x n ρ w r 2) := by
  have pos : ∀ k, 0 < share x n ρ w r k := fun k => weight_pos _ _
  unfold normal
  simp only [weight_share h q]
  exact mul_inv_eq_div (lt_of_lt_of_le (pos 0)
    ((le_add_of_nonneg_right (pos 1).le).trans (le_add_of_nonneg_right (pos 2).le))).ne'

end Cert.Proof.Rows

end
-- ==== Proof.Equation.lean ====
/-
  The equation: under the precondition the kernel's three results are the reference's, array by array.
-/
module

public import proofs.«01_k».proof.Proof.Launch
public import proofs.«01_k».proof.Proof.Rows

@[expose] public section

set_option maxRecDepth 16384

noncomputable section

namespace Cert.Proof.Equation

open Idealize.ShloMosaic Idealize.ShloMosaic.TcCoe Cert.KernelIdeal Cert.KernelIdeal.Gen
open Cert.Proof.Arrays Cert.Proof.Launch Cert.Proof.Distances Cert.Proof.Pre Cert.Proof.Reference Cert.Proof.Rows

variable (m : (ℓ : Loc nD τ sig) → Buf (Elt Ideal) ℓ) (c : Dev nD)

/-- The region's arrays hold what the rows' equations ask of them. -/
theorem prepared : Prepared (argN m c) (argR m c) (argW m c) (nodes m c) (lengths m c) (factors m c) (raws m c) :=
  ⟨nodes_apply m c, lengths_apply m c, factors_apply m c, raws_apply m c⟩

/-- A row of the padded points, among the first 100000, is the program's. -/
theorem at_row (r : Fin 100000) : at_ m c ⟨r.val, by omega⟩ = pt (argX m c) r :=
  funext fun a => points_apply m c r a

/-- An entry of the leading 100000 rows of an array of 102400 is that array's. -/
theorem leading {α : Type} (y : S102400x3.Idx → α) (r : Fin 100000) (k : Fin 3) :
    extractStridedSlice S100000x3 ![0, 0] y slices_S102400x3_S100000x3_0_0 (ix2 r k) = y (ix2 ⟨r.val, by omega⟩ k) := by
  pointwise

variable (h : Separated (argX m c) (argN m c) (argR m c) (argW m c))
include h

/-- The squared distances. -/
theorem nears_eq : extractStridedSlice S100000x3 ![0, 0] (nears m c) slices_S102400x3_S100000x3_0_0
    = distances (argX m c) (argN m c) := by
  funext i
  idx_vars i
  rw [leading, distances_apply, ← near_eq h (prepared m c), ← at_row]
  rfl

/-- The numbers. -/
theorem columns_eq : extractStridedSlice S100000x3 ![0, 0] (columns m c) slices_S102400x3_S100000x3_0_0
    = numbers (argX m c) (argN m c) := by
  funext i
  idx_vars i
  rw [leading, numbers_apply, ← column_eq h (prepared m c), ← at_row]
  rfl

/-- The normalised weights. -/
theorem weights_eq : extractStridedSlice S100000x3 ![0, 0] (weights m c) slices_S102400x3_S100000x3_0_0
    = shares (argX m c) (argN m c) (argR m c) (argW m c) := by
  funext i
  idx_vars i
  rw [leading, shares_apply _ _ _ _ h.weights, ← normal_eq h (prepared m c), ← at_row]
  rfl

end Cert.Proof.Equation

end
-- ==== Proof.ReferenceRun.lean ====
/-
  The reference's run: it ends with the three results as `Reference` spells them, its arguments unchanged and every
  semaphore at zero.
-/
module

public import proofs.«01_k».proof.Proof.Reference
public import Idealize.ShloMosaic.Lib.Quiescent

@[expose] public section

set_option maxRecDepth 16384

noncomputable section

namespace Cert.Proof.ReferenceRun

open Idealize.ShloMosaic Idealize.ShloMosaic.TcCoe Idealize.SL.Sem
open Cert.ReferenceIdeal Cert.ReferenceIdeal.Gen Cert.Proof.Reference

variable (m : (ℓ : Loc nD τ sig) → Buf (Elt Ideal) ℓ) (c : Dev nD)

/-- The point coordinates the reference is given, -/
def refX : FVec Ideal S100000x3 .f32 := m ((c : Thread nD τ).loc main_arg0)
/-- the node coordinates, -/
def refN : FVec Ideal S512x3 .f32 := m ((c : Thread nD τ).loc main_arg3)
/-- the raw radii, -/
def refR : FVec Ideal S512 .f32 := m ((c : Thread nD τ).loc main_arg4)
/-- and the raw node weights. -/
def refW : FVec Ideal S512x1 .f32 := m ((c : Thread nD τ).loc main_arg5)

/-- The first result is the normalised weights. -/
theorem result0 : Value.res_main_v50 m c = shares (refX m c) (refN m c) (refR m c) (refW m c) := by
  unfold Value.res_main_v50
  rfl

/-- The reference's run and its three results. -/
theorem run (ρ : Dev nD → PrngReg) :
    θ_run defs (onTc (τ := τ) (main (F := Ideal))) ⟨m, fun _ => 0, ρ⟩ fun r => ∀ c : Dev nD,
      r.2.mem ((c : Thread nD τ).loc main_v50) = shares (refX m c) (refN m c) (refR m c) (refW m c)
      ∧ r.2.mem ((c : Thread nD τ).loc main_v15) = distances (refX m c) (refN m c)
      ∧ r.2.mem ((c : Thread nD τ).loc main_indices) = numbers (refX m c) (refN m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨(h c).1.trans (result0 m c), (h c).2.1.trans rfl, (h c).2.2.1.trans rfl, (h c).2.2.2⟩)
    (Value.run (F := Ideal) m ρ)

/-- The reference leaves its arguments unchanged and every semaphore at zero. -/
theorem frame (ρ : Dev nD → PrngReg) :
    θ_run defs (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0 :=
  (θ_run defs _ _).mono (fun r h => ⟨fun c => (h c).2.2.2, sem_eq_zero_of_no_sems (by decide) r.2⟩)
    (Value.run (F := Ideal) m ρ)

end Cert.Proof.ReferenceRun

end
-- ==== Proof.lean ====
/-
  The claim: the kernel and its reference run, leave their arguments unchanged and every semaphore at zero, and from
  memories that agree on the arguments and meet the precondition end with equal results.
-/
module

public import proofs.«01_k».proof.Defs
public import proofs.«01_k».proof.Proof.Gen.Kernel.Frame
public import proofs.«01_k».proof.Proof.Gen.KernelIdeal.Frame
public import proofs.«01_k».proof.Proof.Equation
public import proofs.«01_k».proof.Proof.ReferenceRun

@[expose] public section

set_option maxRecDepth 16384

noncomputable section

namespace Cert.Proof

open Idealize.ShloMosaic Idealize.ShloMosaic.TcCoe Idealize.SL.Sem
open Cert.Proof.Launch Cert.Proof.ReferenceRun Cert.Proof.Reference

/-- What the precondition says of the kernel's arguments on one device. -/
theorem separated_of_pre (m : (ℓ : Loc Cert.KernelIdeal.nD Cert.KernelIdeal.τ Cert.KernelIdeal.sig) → Buf (Elt Ideal) ℓ)
    (hpre : Cert.Pre_KernelIdeal_separated m) (c : Dev Cert.KernelIdeal.nD) :
    Pre.Separated (argX m c) (argN m c) (argR m c) (argW m c) :=
  Pre.separated _ _ _ _ _ _ (hpre c)

/-- Kernel and reference end with equal results: the reference's, read from the kernel's arguments. -/
theorem algebraic : Cert.algebraic_KernelIdeal_ReferenceIdeal_pre_separated := by
  intro m ρ m' ρ' hpre hagree
  have hX : ∀ c, refX m' c = argX m c := fun c => (hagree c).1
  have hN : ∀ c, refN m' c = argN m c := fun c => (hagree c).2.2.2.1
  have hR : ∀ c, refR m' c = argR m c := fun c => (hagree c).2.2.2.2.1
  have hW : ∀ c, refW m' c = argW m c := fun c => (hagree c).2.2.2.2.2
  refine ⟨fun c => shares (argX m c) (argN m c) (argR m c) (argW m c), fun c => distances (argX m c) (argN m c),
    fun c => numbers (argX m c) (argN m c), ?_, ?_⟩
  · refine (θ_run _ _ _).mono (fun r h c => ?_) (Launch.run m ρ)
    have hs := separated_of_pre m hpre c
    exact ⟨(h c).1.trans (Equation.weights_eq m c hs), (h c).2.1.trans (Equation.nears_eq m c hs),
      (h c).2.2.1.trans (Equation.columns_eq m c hs), (h c).2.2.2⟩
  · refine (θ_run _ _ _).mono (fun r h c => ?_) (ReferenceRun.run m' ρ')
    have h := h c
    rw [hX, hN, hR, hW] at h
    exact h

/-- The claim. -/
theorem claim : Cert.Claim :=
  ⟨Cert.Kernel.Gen.facts, Cert.KernelIdeal.Gen.facts, Cert.ReferenceIdeal.Gen.facts, Pre.facts,
    fun m ρ _ => Cert.Kernel.Gen.frame m ρ, fun m ρ _ => Cert.KernelIdeal.Gen.frame m ρ,
    fun m ρ _ => Cert.KernelIdeal.Gen.frame m ρ, fun m ρ _ => ReferenceRun.frame m ρ,
    fun m ρ _ => ReferenceRun.frame m ρ, trivial, algebraic⟩

end Cert.Proof

end
